-- ==== Defs.lean ====
def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_OutputRefIdeal (m : (ℓ : Loc Cert.OutputRefIdeal.nD Cert.OutputRefIdeal.τ Cert.OutputRefIdeal.sig) → Buf (Elt Ideal) ℓ) : Prop :=
  True

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3)
      ∧ r.2.mem ((c.tc : Thread Cert.ProjectRefIdeal.nD Cert.ProjectRefIdeal.τ).loc Cert.ProjectRefIdeal.main_arg4) = m ((c.tc : Thread Cert.ProjectRefIdeal.nD Cert.ProjectRefIdeal.τ).loc Cert.ProjectRefIdeal.main_arg4)
      ∧ r.2.mem ((c.tc : Thread Cert.ProjectRefIdeal.nD Cert.ProjectRefIdeal.τ).loc Cert.ProjectRefIdeal.main_arg5) = m ((c.tc : Thread Cert.ProjectRefIdeal.nD Cert.ProjectRefIdeal.τ).loc Cert.ProjectRefIdeal.main_arg5)
      ∧ r.2.mem ((c.tc : Thread Cert.ProjectRefIdeal.nD Cert.ProjectRefIdeal.τ).loc Cert.ProjectRefIdeal.main_arg6) = m ((c.tc : Thread Cert.ProjectRefIdeal.nD Cert.ProjectRefIdeal.τ).loc Cert.ProjectRefIdeal.main_arg6)
      ∧ r.2.mem ((c.tc : Thread Cert.ProjectRefIdeal.nD Cert.ProjectRefIdeal.τ).loc Cert.ProjectRefIdeal.main_arg7) = m ((c.tc : Thread Cert.ProjectRefIdeal.nD Cert.ProjectRefIdeal.τ).loc Cert.ProjectRefIdeal.main_arg7))
      ∧ r.2.sem = fun _ => 0)

def quiescent_OutputRefIdeal [hOutputRefIdeal : Cert.OutputRefIdeal.Facts] : Prop :=
  ∀ (m : (ℓ : Loc Cert.OutputRefIdeal.nD Cert.OutputRefIdeal.τ Cert.OutputRefIdeal.sig) → Buf (Elt Ideal) ℓ) (g : Dev Cert.OutputRefIdeal.nD → PrngReg), Pre_OutputRefIdeal m →
    θ_run (Cert.OutputRefIdeal.defs (F := Ideal)) (onTc (τ := Cert.OutputRefIdeal.τ) (Cert.OutputRefIdeal.main (F := Ideal))) ⟨m, fun _ => 0, g⟩ (fun r => (∀ c : Dev Cert.OutputRefIdeal.nD,
      r.2.mem ((c.tc : Thread Cert.OutputRefIdeal.nD Cert.OutputRefIdeal.τ).loc Cert.OutputRefIdeal.main_arg0) = m ((c.tc : Thread Cert.OutputRefIdeal.nD Cert.OutputRefIdeal.τ).loc Cert.OutputRefIdeal.main_arg0)
      ∧ r.2.mem ((c.tc : Thread Cert.OutputRefIdeal.nD Cert.OutputRefIdeal.τ).loc Cert.OutputRefIdeal.main_arg1) = m ((c.tc : Thread Cert.OutputRefIdeal.nD Cert.OutputRefIdeal.τ).loc Cert.OutputRefIdeal.main_arg1)
      ∧ r.2.mem ((c.tc : Thread Cert.OutputRefIdeal.nD Cert.OutputRefIdeal.τ).loc Cert.OutputRefIdeal.main_arg2) = m ((c.tc : Thread Cert.OutputRefIdeal.nD Cert.OutputRefIdeal.τ).loc Cert.OutputRefIdeal.main_arg2)
      ∧ r.2.mem ((c.tc : Thread Cert.OutputRefIdeal.nD Cert.OutputRefIdeal.τ).loc Cert.OutputRefIdeal.main_arg3) = m ((c.tc : Thread Cert.OutputRefIdeal.nD Cert.OutputRefIdeal.τ).loc Cert.OutputRefIdeal.main_arg3)
      ∧ r.2.mem ((c.tc : Thread Cert.OutputRefIdeal.nD Cert.OutputRefIdeal.τ).loc Cert.OutputRefIdeal.main_arg4) = m ((c.tc : Thread Cert.OutputRefIdeal.nD Cert.OutputRefIdeal.τ).loc Cert.OutputRefIdeal.main_arg4))
      ∧ r.2.sem = fun _ => 0)

def preserves_Project_ProjectIdeal : Prop :=
  True

def preserves_Output_OutputIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)
      ∧ m' ((c.tc : Thread Cert.ProjectRefIdeal.nD Cert.ProjectRefIdeal.τ).loc Cert.ProjectRefIdeal.main_arg4) = m ((c.tc : Thread Cert.ProjectIdeal.nD Cert.ProjectIdeal.τ).loc Cert.ProjectIdeal.main_arg4)
      ∧ m' ((c.tc : Thread Cert.ProjectRefIdeal.nD Cert.ProjectRefIdeal.τ).loc Cert.ProjectRefIdeal.main_arg5) = m ((c.tc : Thread Cert.ProjectIdeal.nD Cert.ProjectIdeal.τ).loc Cert.ProjectIdeal.main_arg5)
      ∧ m' ((c.tc : Thread Cert.ProjectRefIdeal.nD Cert.ProjectRefIdeal.τ).loc Cert.ProjectRefIdeal.main_arg6) = m ((c.tc : Thread Cert.ProjectIdeal.nD Cert.ProjectIdeal.τ).loc Cert.ProjectIdeal.main_arg6)
      ∧ m' ((c.tc : Thread Cert.ProjectRefIdeal.nD Cert.ProjectRefIdeal.τ).loc Cert.ProjectRefIdeal.main_arg7) = m ((c.tc : Thread Cert.ProjectIdeal.nD Cert.ProjectIdeal.τ).loc Cert.ProjectIdeal.main_arg7)) →
    ∃ (v0 : (c : Dev Cert.ProjectIdeal.nD) → Buf (Elt Ideal) ((c.tc : Thread Cert.ProjectIdeal.nD Cert.ProjectIdeal.τ).loc Cert.ProjectIdeal.main_v0_0)) (v1 : (c : Dev Cert.ProjectIdeal.nD) → Buf (Elt Ideal) ((c.tc : Thread Cert.ProjectIdeal.nD Cert.ProjectIdeal.τ).loc Cert.ProjectIdeal.main_v0_1)) (v2 : (c : Dev Cert.ProjectIdeal.nD) → Buf (Elt Ideal) ((c.tc : Thread Cert.ProjectIdeal.nD Cert.ProjectIdeal.τ).loc Cert.ProjectIdeal.main_v0_2)) (v3 : (c : Dev Cert.ProjectIdeal.nD) → Buf (Elt Ideal) ((c.tc : Thread Cert.ProjectIdeal.nD Cert.ProjectIdeal.τ).loc Cert.ProjectIdeal.main_v0_3)) (v4 : (c : Dev Cert.ProjectIdeal.nD) → Buf (Elt Ideal) ((c.tc : Thread Cert.ProjectIdeal.nD Cert.ProjectIdeal.τ).loc Cert.ProjectIdeal.main_v0_4)) (v5 : (c : Dev Cert.ProjectIdeal.nD) → Buf (Elt Ideal) ((c.tc : Thread Cert.ProjectIdeal.nD Cert.ProjectIdeal.τ).loc Cert.ProjectIdeal.main_v0_5)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0_0) = v0 c
          ∧ r.2.mem ((c.tc : Thread Cert.ProjectIdeal.nD Cert.ProjectIdeal.τ).loc Cert.ProjectIdeal.main_v0_1) = v1 c
          ∧ r.2.mem ((c.tc : Thread Cert.ProjectIdeal.nD Cert.ProjectIdeal.τ).loc Cert.ProjectIdeal.main_v0_2) = v2 c
          ∧ r.2.mem ((c.tc : Thread Cert.ProjectIdeal.nD Cert.ProjectIdeal.τ).loc Cert.ProjectIdeal.main_v0_3) = v3 c
          ∧ r.2.mem ((c.tc : Thread Cert.ProjectIdeal.nD Cert.ProjectIdeal.τ).loc Cert.ProjectIdeal.main_v0_4) = v4 c
          ∧ r.2.mem ((c.tc : Thread Cert.ProjectIdeal.nD Cert.ProjectIdeal.τ).loc Cert.ProjectIdeal.main_v0_5) = v5 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v0_0) = v0 c
          ∧ r.2.mem ((c.tc : Thread Cert.ProjectRefIdeal.nD Cert.ProjectRefIdeal.τ).loc Cert.ProjectRefIdeal.main_v0_1) = v1 c
          ∧ r.2.mem ((c.tc : Thread Cert.ProjectRefIdeal.nD Cert.ProjectRefIdeal.τ).loc Cert.ProjectRefIdeal.main_v0_2) = v2 c
          ∧ r.2.mem ((c.tc : Thread Cert.ProjectRefIdeal.nD Cert.ProjectRefIdeal.τ).loc Cert.ProjectRefIdeal.main_v0_3) = v3 c
          ∧ r.2.mem ((c.tc : Thread Cert.ProjectRefIdeal.nD Cert.ProjectRefIdeal.τ).loc Cert.ProjectRefIdeal.main_v0_4) = v4 c
          ∧ r.2.mem ((c.tc : Thread Cert.ProjectRefIdeal.nD Cert.ProjectRefIdeal.τ).loc Cert.ProjectRefIdeal.main_v0_5) = v5 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3)
          ∧ r.2.mem ((c.tc : Thread Cert.ProjectRefIdeal.nD Cert.ProjectRefIdeal.τ).loc Cert.ProjectRefIdeal.main_arg4) = m' ((c.tc : Thread Cert.ProjectRefIdeal.nD Cert.ProjectRefIdeal.τ).loc Cert.ProjectRefIdeal.main_arg4)
          ∧ r.2.mem ((c.tc : Thread Cert.ProjectRefIdeal.nD Cert.ProjectRefIdeal.τ).loc Cert.ProjectRefIdeal.main_arg5) = m' ((c.tc : Thread Cert.ProjectRefIdeal.nD Cert.ProjectRefIdeal.τ).loc Cert.ProjectRefIdeal.main_arg5)
          ∧ r.2.mem ((c.tc : Thread Cert.ProjectRefIdeal.nD Cert.ProjectRefIdeal.τ).loc Cert.ProjectRefIdeal.main_arg6) = m' ((c.tc : Thread Cert.ProjectRefIdeal.nD Cert.ProjectRefIdeal.τ).loc Cert.ProjectRefIdeal.main_arg6)
          ∧ r.2.mem ((c.tc : Thread Cert.ProjectRefIdeal.nD Cert.ProjectRefIdeal.τ).loc Cert.ProjectRefIdeal.main_arg7) = m' ((c.tc : Thread Cert.ProjectRefIdeal.nD Cert.ProjectRefIdeal.τ).loc Cert.ProjectRefIdeal.main_arg7))

def algebraic_OutputIdeal_OutputRefIdeal [hOutputIdeal : Cert.OutputIdeal.Facts] [hOutputRefIdeal : Cert.OutputRefIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputRefIdeal.nD Cert.OutputRefIdeal.τ Cert.OutputRefIdeal.sig) → Buf (Elt Ideal) ℓ) (g' : Dev Cert.OutputRefIdeal.nD → PrngReg), Pre_OutputIdeal m →
    (∀ c : Dev Cert.OutputIdeal.nD,
      m' ((c.tc : Thread Cert.OutputRefIdeal.nD Cert.OutputRefIdeal.τ).loc Cert.OutputRefIdeal.main_arg0) = m ((c.tc : Thread Cert.OutputIdeal.nD Cert.OutputIdeal.τ).loc Cert.OutputIdeal.main_arg0)
      ∧ m' ((c.tc : Thread Cert.OutputRefIdeal.nD Cert.OutputRefIdeal.τ).loc Cert.OutputRefIdeal.main_arg1) = m ((c.tc : Thread Cert.OutputIdeal.nD Cert.OutputIdeal.τ).loc Cert.OutputIdeal.main_arg1)
      ∧ m' ((c.tc : Thread Cert.OutputRefIdeal.nD Cert.OutputRefIdeal.τ).loc Cert.OutputRefIdeal.main_arg2) = m ((c.tc : Thread Cert.OutputIdeal.nD Cert.OutputIdeal.τ).loc Cert.OutputIdeal.main_arg2)
      ∧ m' ((c.tc : Thread Cert.OutputRefIdeal.nD Cert.OutputRefIdeal.τ).loc Cert.OutputRefIdeal.main_arg3) = m ((c.tc : Thread Cert.OutputIdeal.nD Cert.OutputIdeal.τ).loc Cert.OutputIdeal.main_arg3)
      ∧ m' ((c.tc : Thread Cert.OutputRefIdeal.nD Cert.OutputRefIdeal.τ).loc Cert.OutputRefIdeal.main_arg4) = m ((c.tc : Thread Cert.OutputIdeal.nD Cert.OutputIdeal.τ).loc Cert.OutputIdeal.main_arg4)) →
    ∃ (v0 : (c : Dev Cert.OutputIdeal.nD) → Buf (Elt Ideal) ((c.tc : Thread Cert.OutputIdeal.nD Cert.OutputIdeal.τ).loc Cert.OutputIdeal.main_v0_0)) (v1 : (c : Dev Cert.OutputIdeal.nD) → Buf (Elt Ideal) ((c.tc : Thread Cert.OutputIdeal.nD Cert.OutputIdeal.τ).loc Cert.OutputIdeal.main_v0_1)) (v2 : (c : Dev Cert.OutputIdeal.nD) → Buf (Elt Ideal) ((c.tc : Thread Cert.OutputIdeal.nD Cert.OutputIdeal.τ).loc Cert.OutputIdeal.main_v0_2)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v0_0) = v0 c
          ∧ r.2.mem ((c.tc : Thread Cert.OutputIdeal.nD Cert.OutputIdeal.τ).loc Cert.OutputIdeal.main_v0_1) = v1 c
          ∧ r.2.mem ((c.tc : Thread Cert.OutputIdeal.nD Cert.OutputIdeal.τ).loc Cert.OutputIdeal.main_v0_2) = v2 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4))
      ∧ θ_run (Cert.OutputRefIdeal.defs (F := Ideal)) (onTc (τ := Cert.OutputRefIdeal.τ) (Cert.OutputRefIdeal.main (F := Ideal))) ⟨m', fun _ => 0, g'⟩ (fun r => ∀ c : Dev Cert.OutputRefIdeal.nD,
          r.2.mem ((c.tc : Thread Cert.OutputRefIdeal.nD Cert.OutputRefIdeal.τ).loc Cert.OutputRefIdeal.main_v0_0) = v0 c
          ∧ r.2.mem ((c.tc : Thread Cert.OutputRefIdeal.nD Cert.OutputRefIdeal.τ).loc Cert.OutputRefIdeal.main_v0_1) = v1 c
          ∧ r.2.mem ((c.tc : Thread Cert.OutputRefIdeal.nD Cert.OutputRefIdeal.τ).loc Cert.OutputRefIdeal.main_v0_2) = v2 c
          ∧ r.2.mem ((c.tc : Thread Cert.OutputRefIdeal.nD Cert.OutputRefIdeal.τ).loc Cert.OutputRefIdeal.main_arg0) = m' ((c.tc : Thread Cert.OutputRefIdeal.nD Cert.OutputRefIdeal.τ).loc Cert.OutputRefIdeal.main_arg0)
          ∧ r.2.mem ((c.tc : Thread Cert.OutputRefIdeal.nD Cert.OutputRefIdeal.τ).loc Cert.OutputRefIdeal.main_arg1) = m' ((c.tc : Thread Cert.OutputRefIdeal.nD Cert.OutputRefIdeal.τ).loc Cert.OutputRefIdeal.main_arg1)
          ∧ r.2.mem ((c.tc : Thread Cert.OutputRefIdeal.nD Cert.OutputRefIdeal.τ).loc Cert.OutputRefIdeal.main_arg2) = m' ((c.tc : Thread Cert.OutputRefIdeal.nD Cert.OutputRefIdeal.τ).loc Cert.OutputRefIdeal.main_arg2)
          ∧ r.2.mem ((c.tc : Thread Cert.OutputRefIdeal.nD Cert.OutputRefIdeal.τ).loc Cert.OutputRefIdeal.main_arg3) = m' ((c.tc : Thread Cert.OutputRefIdeal.nD Cert.OutputRefIdeal.τ).loc Cert.OutputRefIdeal.main_arg3)
          ∧ r.2.mem ((c.tc : Thread Cert.OutputRefIdeal.nD Cert.OutputRefIdeal.τ).loc Cert.OutputRefIdeal.main_arg4) = m' ((c.tc : Thread Cert.OutputRefIdeal.nD Cert.OutputRefIdeal.τ).loc Cert.OutputRefIdeal.main_arg4))

def Claim : Prop :=
  ∃ (hProject : Cert.Project.Facts) (hProjectIdeal : Cert.ProjectIdeal.Facts) (hOutput : Cert.Output.Facts) (hOutputIdeal : Cert.OutputIdeal.Facts) (hProjectRefIdeal : Cert.ProjectRefIdeal.Facts) (hOutputRefIdeal : Cert.OutputRefIdeal.Facts),
    quiescent_Project (hProject := hProject)
    ∧ quiescent_ProjectIdeal (hProjectIdeal := hProjectIdeal)
    ∧ quiescent_Output (hOutput := hOutput)
    ∧ quiescent_OutputIdeal (hOutputIdeal := hOutputIdeal)
    ∧ quiescent_ProjectRefIdeal (hProjectRefIdeal := hProjectRefIdeal)
    ∧ quiescent_OutputRefIdeal (hOutputRefIdeal := hOutputRefIdeal)
    ∧ preserves_Project_ProjectIdeal
    ∧ preserves_Output_OutputIdeal
    ∧ algebraic_ProjectIdeal_ProjectRefIdeal (hProjectIdeal := hProjectIdeal) (hProjectRefIdeal := hProjectRefIdeal)
    ∧ algebraic_OutputIdeal_OutputRefIdeal (hOutputIdeal := hOutputIdeal) (hOutputRefIdeal := hOutputRefIdeal)
-- ==== Project.lean ====
abbrev S13056x5376 : Shape := ⟨2, ![13056, 5376]⟩
abbrev S1x5376 : Shape := ⟨2, ![1, 5376]⟩
abbrev S5376x2048 : Shape := ⟨2, ![5376, 2048]⟩
abbrev S1x2048 : Shape := ⟨2, ![1, 2048]⟩
abbrev S1x128 : Shape := ⟨2, ![1, 128]⟩
abbrev S13056x64 : Shape := ⟨2, ![13056, 64]⟩
abbrev S51x2x128 : Shape := ⟨3, ![51, 2, 128]⟩
abbrev S13056x1024 : Shape := ⟨2, ![13056, 1024]⟩
abbrev S13056x512 : Shape := ⟨2, ![13056, 512]⟩
abbrev S13056x128 : Shape := ⟨2, ![13056, 128]⟩
abbrev S256x5376 : Shape := ⟨2, ![256, 5376]⟩
abbrev S256x64 : Shape := ⟨2, ![256, 64]⟩
abbrev S1x2x128 : Shape := ⟨3, ![1, 2, 128]⟩
abbrev S256x1024 : Shape := ⟨2, ![256, 1024]⟩
abbrev S256x512 : Shape := ⟨2, ![256, 512]⟩
abbrev S256x128 : Shape := ⟨2, ![256, 128]⟩
abbrev S256x2048 : Shape := ⟨2, ![256, 2048]⟩
abbrev S5376x512 : Shape := ⟨2, ![5376, 512]⟩
abbrev S32x256 : Shape := ⟨2, ![32, 256]⟩
abbrev S1x256 : Shape := ⟨2, ![1, 256]⟩
abbrev S32 : Shape := ⟨1, ![32]⟩
abbrev S32x1 : Shape := ⟨2, ![32, 1]⟩
abbrev S32x128 : Shape := ⟨2, ![32, 128]⟩
abbrev S128x128 : Shape := ⟨2, ![128, 128]⟩
abbrev S1x1x128 : Shape := ⟨3, ![1, 1, 128]⟩
abbrev S64x128 : Shape := ⟨2, ![64, 128]⟩
abbrev S64x64 : Shape := ⟨2, ![64, 64]⟩
abbrev S64 : Shape := ⟨1, ![64]⟩
abbrev S64x1 : Shape := ⟨2, ![64, 1]⟩

abbrev nBuf : Space → Nat
  | .hbm => 14
  | .vmem => 29
  | .smem => 0
  | _ => 0

abbrev bufTy : (tb : Table) → Fin (tcTables nBuf tb) → BufTy
  | .hbm, ⟨0, _⟩ => ⟨S13056x5376, .bf16⟩
  | .hbm, ⟨1, _⟩ => ⟨S1x5376, .f32⟩
  | .hbm, ⟨2, _⟩ => ⟨S5376x2048, .fp8e4m3⟩
  | .hbm, ⟨3, _⟩ => ⟨S1x2048, .f32⟩
  | .hbm, ⟨4, _⟩ => ⟨S1x128, .f32⟩
  | .hbm, ⟨5, _⟩ => ⟨S1x128, .f32⟩
  | .hbm, ⟨6, _⟩ => ⟨S13056x64, .f32⟩
  | .hbm, ⟨7, _⟩ => ⟨S13056x64, .f32⟩
  | .hbm, ⟨8, _⟩ => ⟨S13056x5376, .fp8e4m3⟩
  | .hbm, ⟨9, _⟩ => ⟨S51x2x128, .f32⟩
  | .hbm, ⟨10, _⟩ => ⟨S13056x1024, .bf16⟩
  | .hbm, ⟨11, _⟩ => ⟨S13056x512, .fp8e4m3⟩
  | .hbm, ⟨12, _⟩ => ⟨S13056x512, .fp8e4m3⟩
  | .hbm, ⟨13, _⟩ => ⟨S13056x128, .f32⟩
  | .local _ .vmem, ⟨0, _⟩ => ⟨S256x5376, .bf16⟩
  | .local _ .vmem, ⟨1, _⟩ => ⟨S256x5376, .bf16⟩
  | .local _ .vmem, ⟨2, _⟩ => ⟨S1x5376, .f32⟩
  | .local _ .vmem, ⟨3, _⟩ => ⟨S5376x2048, .fp8e4m3⟩
  | .local _ .vmem, ⟨4, _⟩ => ⟨S1x2048, .f32⟩
  | .local _ .vmem, ⟨5, _⟩ => ⟨S1x128, .f32⟩
  | .local _ .vmem, ⟨6, _⟩ => ⟨S1x128, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S256x64, .f32⟩
  | .local _ .vmem, ⟨11, _⟩ => ⟨S256x5376, .fp8e4m3⟩
  | .local _ .vmem, ⟨12, _⟩ => ⟨S256x5376, .fp8e4m3⟩
  | .local _ .vmem, ⟨13, _⟩ => ⟨S1x2x128, .f32⟩
  | .local _ .vmem, ⟨14, _⟩ => ⟨S1x2x128, .f32⟩
  | .local _ .vmem, ⟨15, _⟩ => ⟨S256x1024, .bf16⟩
  | .local _ .vmem, ⟨16, _⟩ => ⟨S256x1024, .bf16⟩
  | .local _ .vmem, ⟨17, _⟩ => ⟨S256x512, .fp8e4m3⟩
  | .local _ .vmem, ⟨18, _⟩ => ⟨S256x512, .fp8e4m3⟩
  | .local _ .vmem, ⟨19, _⟩ => ⟨S256x512, .fp8e4m3⟩
  | .local _ .vmem, ⟨20, _⟩ => ⟨S256x512, .fp8e4m3⟩
  | .local _ .vmem, ⟨21, _⟩ => ⟨S256x128, .f32⟩
  | .local _ .vmem, ⟨22, _⟩ => ⟨S256x128, .f32⟩
  | .local _ .vmem, ⟨23, _⟩ => ⟨S256x5376, .fp8e4m3⟩
  | .local _ .vmem, ⟨24, _⟩ => ⟨S256x5376, .fp8e4m3⟩
  | .local _ .vmem, ⟨25, _⟩ => ⟨S256x128, .f32⟩
  | .local _ .vmem, ⟨26, _⟩ => ⟨S256x128, .f32⟩
  | .local _ .vmem, ⟨27, _⟩ => ⟨S256x2048, .f32⟩
  | .local _ .vmem, ⟨28, _⟩ => ⟨S256x2048, .f32⟩
  | _, _ => ⟨S13056x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![53], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c50_i32 : BitVec 32 := 50#32
  let v0 : BitVec 32 := Scalar.minsi arg0 c50_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c50_i32 : BitVec 32 := 50#32
  let v0 : BitVec 32 := Scalar.minsi arg0 c50_i32
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c50_i32 : BitVec 32 := 50#32
  let v0 : BitVec 32 := Scalar.minsi arg0 c50_i32
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5376 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5376x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5376 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Output.lean ====
abbrev S13056x1024 : Shape := ⟨2, ![13056, 1024]⟩
abbrev S13056x5376 : Shape := ⟨2, ![13056, 5376]⟩
abbrev S1024x5376 : Shape := ⟨2, ![1024, 5376]⟩
abbrev S1x5376 : Shape := ⟨2, ![1, 5376]⟩
abbrev S51x2x128 : Shape := ⟨3, ![51, 2, 128]⟩
abbrev S256x1024 : Shape := ⟨2, ![256, 1024]⟩
abbrev S256x5376 : Shape := ⟨2, ![256, 5376]⟩
abbrev S1x2x128 : Shape := ⟨3, ![1, 2, 128]⟩
abbrev S256x128 : Shape := ⟨2, ![256, 128]⟩
abbrev S32x1024 : Shape := ⟨2, ![32, 1024]⟩
abbrev S32 : Shape := ⟨1, ![32]⟩
abbrev S32x1 : Shape := ⟨2, ![32, 1]⟩
abbrev S32x128 : Shape := ⟨2, ![32, 128]⟩
abbrev S128x128 : Shape := ⟨2, ![128, 128]⟩
abbrev S1x128 : Shape := ⟨2, ![1, 128]⟩
abbrev S1x1x128 : Shape := ⟨3, ![1, 1, 128]⟩
abbrev S1024x256 : Shape := ⟨2, ![1024, 256]⟩
abbrev S256x256 : Shape := ⟨2, ![256, 256]⟩
abbrev S16x256 : Shape := ⟨2, ![16, 256]⟩
abbrev S16 : Shape := ⟨1, ![16]⟩
abbrev S16x1 : Shape := ⟨2, ![16, 1]⟩
abbrev S1x256 : Shape := ⟨2, ![1, 256]⟩

abbrev nBuf : Space → Nat
  | .hbm => 8
  | .vmem => 16
  | .smem => 0
  | _ => 0

abbrev bufTy : (tb : Table) → Fin (tcTables nBuf tb) → BufTy
  | .hbm, ⟨0, _⟩ => ⟨S13056x1024, .f32⟩
  | .hbm, ⟨1, _⟩ => ⟨S13056x5376, .bf16⟩
  | .hbm, ⟨2, _⟩ => ⟨S1024x5376, .fp8e4m3⟩
  | .hbm, ⟨3, _⟩ => ⟨S1x5376, .f32⟩
  | .hbm, ⟨4, _⟩ => ⟨S1x5376, .f32⟩
  | .hbm, ⟨5, _⟩ => ⟨S13056x1024, .fp8e4m3⟩
  | .hbm, ⟨6, _⟩ => ⟨S51x2x128, .f32⟩
  | .hbm, ⟨7, _⟩ => ⟨S13056x5376, .bf16⟩
  | .local _ .vmem, ⟨0, _⟩ => ⟨S256x1024, .f32⟩
  | .local _ .vmem, ⟨1, _⟩ => ⟨S256x1024, .f32⟩
  | .local _ .vmem, ⟨2, _⟩ => ⟨S256x5376, .bf16⟩
  | .local _ .vmem, ⟨3, _⟩ => ⟨S256x5376, .bf16⟩
  | .local _ .vmem, ⟨4, _⟩ => ⟨S1024x5376, .fp8e4m3⟩
  | .local _ .vmem, ⟨5, _⟩ => ⟨S1x5376, .f32⟩
  | .local _ .vmem, ⟨6, _⟩ => ⟨S1x5376, .f32⟩
  | .local _ .vmem, ⟨7, _⟩ => ⟨S256x1024, .fp8e4m3⟩
  | .local _ .vmem, ⟨8, _⟩ => ⟨S256x1024, .fp8e4m3⟩
  | .local _ .vmem, ⟨9, _⟩ => ⟨S1x2x128, .f32⟩
  | .local _ .vmem, ⟨10, _⟩ => ⟨S1x2x128, .f32⟩
  | .local _ .vmem, ⟨11, _⟩ => ⟨S256x5376, .bf16⟩
  | .local _ .vmem, ⟨12, _⟩ => ⟨S256x5376, .bf16⟩
  | .local _ .vmem, ⟨13, _⟩ => ⟨S256x5376, .f32⟩
  | .local _ .vmem, ⟨14, _⟩ => ⟨S256x5376, .f32⟩
  | .local _ .vmem, ⟨15, _⟩ => ⟨S256x128, .f32⟩
  | _, _ => ⟨S13056x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![52], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c50_i32 : BitVec 32 := 50#32
  let v0 : BitVec 32 := Scalar.minsi arg0 c50_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c50_i32 : BitVec 32 := 50#32
  let v0 : BitVec 32 := Scalar.minsi arg0 c50_i32
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c50_i32 : BitVec 32 := 50#32
  let v0 : BitVec 32 := Scalar.minsi arg0 c50_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5376 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5376 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5376 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5376 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjectRefIdeal.lean ====
abbrev S13056x5376 : Shape := ⟨2, ![13056, 5376]⟩
abbrev S1x5376 : Shape := ⟨2, ![1, 5376]⟩
abbrev S5376x2048 : Shape := ⟨2, ![5376, 2048]⟩
abbrev S1x2048 : Shape := ⟨2, ![1, 2048]⟩
abbrev S1x128 : Shape := ⟨2, ![1, 128]⟩
abbrev S13056x64 : Shape := ⟨2, ![13056, 64]⟩
abbrev S51x2x128 : Shape := ⟨3, ![51, 2, 128]⟩
abbrev S13056x1024 : Shape := ⟨2, ![13056, 1024]⟩
abbrev S13056x512 : Shape := ⟨2, ![13056, 512]⟩
abbrev S13056x128 : Shape := ⟨2, ![13056, 128]⟩
abbrev S13056 : Shape := ⟨1, ![13056]⟩
abbrev S13056x1 : Shape := ⟨2, ![13056, 1]⟩
abbrev S13056x2048 : Shape := ⟨2, ![13056, 2048]⟩
abbrev S13056x16x128 : Shape := ⟨3, ![13056, 16, 128]⟩
abbrev S13056x1x64 : Shape := ⟨3, ![13056, 1, 64]⟩
abbrev S13056x8x128 : Shape := ⟨3, ![13056, 8, 128]⟩
abbrev S1x1x128 : Shape := ⟨3, ![1, 1, 128]⟩
abbrev S13056x8 : Shape := ⟨2, ![13056, 8]⟩
abbrev S13056x8x1 : Shape := ⟨3, ![13056, 8, 1]⟩
abbrev S13056x8x64 : Shape := ⟨3, ![13056, 8, 64]⟩
abbrev S13056x4x128 : Shape := ⟨3, ![13056, 4, 128]⟩
abbrev S13056x4 : Shape := ⟨2, ![13056, 4]⟩
abbrev S13056x4x1 : Shape := ⟨3, ![13056, 4, 1]⟩
abbrev S13056x4x64 : Shape := ⟨3, ![13056, 4, 64]⟩
abbrev S13056x120 : Shape := ⟨2, ![13056, 120]⟩

abbrev nBuf : Space → Nat
  | .hbm => 14
  | .vmem => 14
  | .smem => 0
  | _ => 0

abbrev bufTy : (tb : Table) → Fin (tcTables nBuf tb) → BufTy
  | .hbm, ⟨0, _⟩ => ⟨S13056x5376, .bf16⟩
  | .hbm, ⟨1, _⟩ => ⟨S1x5376, .f32⟩
  | .hbm, ⟨2, _⟩ => ⟨S5376x2048, .fp8e4m3⟩
  | .hbm, ⟨3, _⟩ => ⟨S1x2048, .f32⟩
  | .hbm, ⟨4, _⟩ => ⟨S1x128, .f32⟩
  | .hbm, ⟨5, _⟩ => ⟨S1x128, .f32⟩
  | .hbm, ⟨6, _⟩ => ⟨S13056x64, .f32⟩
  | .hbm, ⟨7, _⟩ => ⟨S13056x64, .f32⟩
  | .hbm, ⟨8, _⟩ => ⟨S13056x5376, .fp8e4m3⟩
  | .hbm, ⟨9, _⟩ => ⟨S51x2x128, .f32⟩
  | .hbm, ⟨10, _⟩ => ⟨S13056x1024, .bf16⟩
  | .hbm, ⟨11, _⟩ => ⟨S13056x512, .fp8e4m3⟩
  | .hbm, ⟨12, _⟩ => ⟨S13056x512, .fp8e4m3⟩
  | .hbm, ⟨13, _⟩ => ⟨S13056x128, .f32⟩
  | .local _ .vmem, ⟨0, _⟩ => ⟨S13056x5376, .bf16⟩
  | .local _ .vmem, ⟨1, _⟩ => ⟨S1x5376, .f32⟩
  | .local _ .vmem, ⟨2, _⟩ => ⟨S5376x2048, .fp8e4m3⟩
  | .local _ .vmem, ⟨3, _⟩ => ⟨S1x2048, .f32⟩
  | .local _ .vmem, ⟨4, _⟩ => ⟨S1x128, .f32⟩
  | .local _ .vmem, ⟨5, _⟩ => ⟨S1x128, .f32⟩
  | .local _ .vmem, ⟨6, _⟩ => ⟨S13056x64, .f32⟩
  | .local _ .vmem, ⟨7, _⟩ => ⟨S13056x64, .f32⟩
  | .local _ .vmem, ⟨8, _⟩ => ⟨S13056x5376, .fp8e4m3⟩
  | .local _ .vmem, ⟨9, _⟩ => ⟨S51x2x128, .f32⟩
  | .local _ .vmem, ⟨10, _⟩ => ⟨S13056x1024, .bf16⟩
  | .local _ .vmem, ⟨11, _⟩ => ⟨S13056x512, .fp8e4m3⟩
  | .local _ .vmem, ⟨12, _⟩ => ⟨S13056x512, .fp8e4m3⟩
  | .local _ .vmem, ⟨13, _⟩ => ⟨S13056x128, .f32⟩
  | _, _ => ⟨S13056x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S13056x5376 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5376 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5376x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S13056x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S13056x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S13056x5376 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S51x2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S13056x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S13056x512 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S13056x512 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S13056x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== OutputRefIdeal.lean ====
abbrev S13056x1024 : Shape := ⟨2, ![13056, 1024]⟩
abbrev S13056x5376 : Shape := ⟨2, ![13056, 5376]⟩
abbrev S1024x5376 : Shape := ⟨2, ![1024, 5376]⟩
abbrev S1x5376 : Shape := ⟨2, ![1, 5376]⟩
abbrev S51x2x128 : Shape := ⟨3, ![51, 2, 128]⟩
abbrev S13056 : Shape := ⟨1, ![13056]⟩
abbrev S13056x1 : Shape := ⟨2, ![13056, 1]⟩

abbrev nBuf : Space → Nat
  | .hbm => 8
  | .vmem => 8
  | .smem => 0
  | _ => 0

abbrev bufTy : (tb : Table) → Fin (tcTables nBuf tb) → BufTy
  | .hbm, ⟨0, _⟩ => ⟨S13056x1024, .f32⟩
  | .hbm, ⟨1, _⟩ => ⟨S13056x5376, .bf16⟩
  | .hbm, ⟨2, _⟩ => ⟨S1024x5376, .fp8e4m3⟩
  | .hbm, ⟨3, _⟩ => ⟨S1x5376, .f32⟩
  | .hbm, ⟨4, _⟩ => ⟨S1x5376, .f32⟩
  | .hbm, ⟨5, _⟩ => ⟨S13056x1024, .fp8e4m3⟩
  | .hbm, ⟨6, _⟩ => ⟨S51x2x128, .f32⟩
  | .hbm, ⟨7, _⟩ => ⟨S13056x5376, .bf16⟩
  | .local _ .vmem, ⟨0, _⟩ => ⟨S13056x1024, .f32⟩
  | .local _ .vmem, ⟨1, _⟩ => ⟨S13056x5376, .bf16⟩
  | .local _ .vmem, ⟨2, _⟩ => ⟨S1024x5376, .fp8e4m3⟩
  | .local _ .vmem, ⟨3, _⟩ => ⟨S1x5376, .f32⟩
  | .local _ .vmem, ⟨4, _⟩ => ⟨S1x5376, .f32⟩
  | .local _ .vmem, ⟨5, _⟩ => ⟨S13056x1024, .fp8e4m3⟩
  | .local _ .vmem, ⟨6, _⟩ => ⟨S51x2x128, .f32⟩
  | .local _ .vmem, ⟨7, _⟩ => ⟨S13056x5376, .bf16⟩
  | _, _ => ⟨S13056x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S13056x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S13056x5376 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x5376 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5376 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S13056x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S51x2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S13056x5376 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Act.lean ====
/-
  Structured kernel bodies. A body that only loads windows of its buffers, computes and stores windows back is
  written once more with loops (`Act`): the program it is, together with the plain function of the buffers' values
  it computes, and the proof that the program computes that function. The combinators carry the proof along, so
  that everything said later about the values is about the plain function alone.
-/
module

public import Idealize.ShloMosaic.Lib.VecWindow
public import Idealize.ShloMosaic.Lib.Pipeline
public import Idealize.ShloMosaic.Lib.Pipeline.TableIdle

@[expose] public section

noncomputable section

namespace Cert.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} [∀ e, Nonempty (Val e)] {Λ : Labels} {U : Type} [URA U]

local notation "𝕄" => MT nD τ sig Unit Val ℕ U ℕ
local notation "ℙ" => Prog (TpuEff nD τ sig Val Λ Proc.tc)

/-- The buffers a body works on, by an index of its own: shape, element type and memref of each. -/
structure Frame (sig : RefSig) (ι : Type) where
  sh : ι → Shape
  el : ι → EltTy
  ref : ∀ j, Memref sig .tc .vmem (sh j) (el j)

variable {ι : Type} [Fintype ι] [DecidableEq ι]

/-- What the buffers hold. -/
abbrev Bufs (Val : EltTy → Type) (M : Frame sig ι) : Type := ∀ j, (M.sh j).Idx → Val (M.el j)

/-- The buffers, owned whole at the values `b`. -/
def held (c : Dev nD) (M : Frame sig ι) (b : Bufs Val M) : sProp 𝕄 :=
  bigSep Finset.univ fun j => owns (c : Thread nD τ) (M.ref j) fullShare (b j)

theorem held_split (c : Dev nD) (M : Frame sig ι) (b : Bufs Val M) (j : ι) :
    (held c M b : sProp 𝕄) = iprop(owns (c : Thread nD τ) (M.ref j) fullShare (b j)
      ∗ bigSep (Finset.univ.erase j) fun i => owns (c : Thread nD τ) (M.ref i) fullShare (b i)) :=
  bigSep_univ_split j

theorem held_update (c : Dev nD) (M : Frame sig ι) (b : Bufs Val M) (j : ι) (x : (M.sh j).Idx → Val (M.el j)) :
    iprop(owns (c : Thread nD τ) (M.ref j) fullShare x
      ∗ bigSep (Finset.univ.erase j) fun i => owns (c : Thread nD τ) (M.ref i) fullShare (b i))
      = (held c M (Function.update b j x) : sProp 𝕄) := by
  rw [held_split c M _ j, Function.update_self]
  congr 1
  refine bigSep_congr fun i hi => ?_
  rw [Function.update_of_ne (Finset.ne_of_mem_erase hi)]

variable {α β : Type}

/-- Run on buffers holding `b`, the program `p` ends with `a` and leaves `b'`. -/
def Run (defs : Defs nD τ sig Val Λ) (c : Dev nD) (M : Frame sig ι) (p : ℙ α) (b b' : Bufs Val M) (a : α) : Prop :=
  ∀ (E : Set ℕ) (K : α → sProp 𝕄),
    iprop(held c M b ∗ (held c M b' -∗ K a)) ⊢ wp frame (wpE defs Variants.none (c : Thread nD τ) none) E p K

variable (U) in
/-- A program that works on the buffers, the function of their values it computes, and the proof that it does. -/
structure Act (defs : Defs nD τ sig Val Λ) (c : Dev nD) (M : Frame sig ι) (α : Type) where
  prog : ℙ α
  sem : Bufs Val M → α × Bufs Val M
  ok : ∀ b, Run (U := U) defs c M prog b (sem b).2 (sem b).1

namespace Act

variable {defs : Defs nD τ sig Val Λ} {c : Dev nD} {M : Frame sig ι}

/-- Nothing but a result. -/
def ret (a : α) : Act U defs c M α where
  prog := .ret a
  sem b := (a, b)
  ok b E K := by
    refine BIBase.Entails.trans ?_ (le_wp_ret frame (wpE defs Variants.none (c : Thread nD τ) none) E a K)
    iintro ⟨H, Hk⟩
    iapply Hk
    iexact H

/-- One after the other. -/
def bind (x : Act U defs c M α) (f : α → Act U defs c M β) : Act U defs c M β where
  prog := x.prog.bind fun a => (f a).prog
  sem b := (f (x.sem b).1).sem (x.sem b).2
  ok b E K := by
    have h := wp_bind frame (wpE defs Variants.none (c : Thread nD τ) none) E x.prog (fun a => (f a).prog) K
    refine BIBase.Entails.trans ?_ (Entails.of_eq h.symm)
    refine BIBase.Entails.trans ?_ (x.ok b E _)
    iintro ⟨H, Hk⟩
    isplitl [H]
    · iexact H
    iintro H
    iapply ((f (x.sem b).1).ok (x.sem b).2 E K)
    isplitl [H]
    · iexact H
    iexact Hk

/-- A load of a window. -/
def load (j : ι) (off size : Fin (M.sh j).rank → ℕ) (inb : ∀ a, off a + size a ≤ (M.sh j).size a)
    (hl : (M.ref j).view.LoadsAt (Rect.unit off size inb).toLoadRect) :
    Act U defs c M ((Rect.unit off size inb).shape.Idx → Val (M.el j)) where
  prog := .op (.load (M.ref j) (Rect.unit off size inb).toLoadRect hl) .ret
  sem b := (VecWindow.window (b j) off size inb, b)
  ok b E K := by
    rw [held_split c M b j, owns_eq_rep]
    iintro ⟨⟨H, Hr⟩, Hk⟩
    iapply (wp_load Variants.none (c : Thread nD τ) none E (S := (M.ref j).view.set) (View.setOn_subset_set _ _)) $$ H
    iintro H
    iapply (le_wp_ret frame (wpE defs Variants.none (c : Thread nD τ) none) E)
    rw [View.readAt_rep_unit _ _ inb rfl inb]
    iapply Hk
    isplitl [H]
    · iexact H
    iexact Hr

/-- A store of a window, unmasked. -/
def store (j : ι) (off size : Fin (M.sh j).rank → ℕ) (inb : ∀ a, off a + size a ≤ (M.sh j).size a)
    (hx : ((M.ref j).access (Rect.unit off size inb)).Stores Finset.univ)
    (w : (Rect.unit off size inb).shape.Idx → Val (M.el j)) : Act U defs c M PUnit where
  prog := .op (.store (M.ref j) (Rect.unit off size inb) w Finset.univ hx (.inl rfl)) .ret
  sem b := (⟨⟩, Function.update b j (VecWindow.put (b j) off size w))
  ok b E K := by
    rw [held_split c M b j, owns_eq_rep]
    iintro ⟨⟨H, Hr⟩, Hk⟩
    iapply (wp_store Variants.none (c : Thread nD τ) none E (m := M.ref j) (r := Rect.unit off size inb) (w := w) (hx := hx)
      (hm := .inl rfl) (S := (M.ref j).view.set) (Finset.Subset.trans (View.setOn_subset_set _ _) (View.set_slice_subset _ _))) $$ H
    iintro H
    iapply (le_wp_ret frame (wpE defs Variants.none (c : Thread nD τ) none) E)
    iapply Hk
    rw [← held_update c M b j, ← View.read_writes_rep_unit _ _ inb w rfl]
    isplitl [H]
    · iapply (owns_intro (c : Thread nD τ) (M.ref j) fullShare)
      iexact H
    iexact Hr

/-- Rounds `lo`, `lo + 1`, … of `N`, `n` of them. -/
def rounds {N : ℕ} (f : (i : ℕ) → i < N → α → Act U defs c M α) : (n lo : ℕ) → lo + n ≤ N → α → Act U defs c M α
  | 0, _, _, a => ret a
  | n + 1, lo, h, a => bind (f lo (by omega) a) fun a => rounds f n (lo + 1) (by omega) a

/-- `N` rounds, the result of each handed to the next. -/
def loop (N : ℕ) (f : (i : ℕ) → i < N → α → Act U defs c M α) (a : α) : Act U defs c M α :=
  rounds f N 0 (by omega) a

instance : Monad (Act U defs c M) where
  pure := ret
  bind := bind

end Act

end Cert.Body
-- ==== Proof.Project.Body.lean ====
/-
  The body of the projection kernel once more, with its loops: the matmul stage, the quantising stage and the head
  stage as structured bodies (`Cert.Body.Act`) over the twenty buffers by the roles they play at a grid point.
-/
module

public import proofs.«01_k».proof.ProjectIdeal
public import proofs.«01_k».proof.Proof.Act

@[expose] public section

noncomputable section

namespace Cert.ProjectIdeal.Val

open Idealize.ShloMosaic Idealize.ShloMosaic.TcCoe
open Idealize.SL Idealize.SL.RA Idealize.SL.BI Idealize.SL.Sem
open Cert.Body
open Facts₀ Facts

variable {F : FTy → Type} [FloatOps F] [Facts]

/-- The buffers by role. -/
inductive Bf
  | x | g | w | s | gq | gk | cos | sin | codesO | scalesO | q | k | v | sc | codesW | codesR | xsW | xsR | qkvW | qkvR
  deriving DecidableEq

instance : Fintype Bf where
  elems := {.x, .g, .w, .s, .gq, .gk, .cos, .sin, .codesO, .scalesO, .q, .k, .v, .sc, .codesW, .codesR, .xsW, .xsR, .qkvW, .qkvR}
  complete j := by cases j <;> decide

abbrev Bf.sh : Bf → Shape
  | .x => S256x5376 | .g => S1x5376 | .w => S5376x2048 | .s => S1x2048 | .gq => S1x128 | .gk => S1x128
  | .cos => S256x64 | .sin => S256x64 | .codesO => S256x5376 | .scalesO => S1x2x128 | .q => S256x1024 | .k => S256x512
  | .v => S256x512 | .sc => S256x128 | .codesW => S256x5376 | .codesR => S256x5376 | .xsW => S256x128 | .xsR => S256x128
  | .qkvW => S256x2048 | .qkvR => S256x2048

abbrev Bf.el : Bf → EltTy
  | .x => .bf16 | .g => .f32 | .w => .fp8e4m3 | .s => .f32 | .gq => .f32 | .gk => .f32
  | .cos => .f32 | .sin => .f32 | .codesO => .fp8e4m3 | .scalesO => .f32 | .q => .bf16 | .k => .fp8e4m3
  | .v => .fp8e4m3 | .sc => .f32 | .codesW => .fp8e4m3 | .codesR => .fp8e4m3 | .xsW => .f32 | .xsR => .f32
  | .qkvW => .f32 | .qkvR => .f32

/-- The memrefs of the twenty roles, each a whole buffer. -/
structure Mem where
  ref : ∀ j : Bf, Memref sig .tc .vmem j.sh j.el
  whole : ∀ j : Bf, (ref j).IsWhole

abbrev Mem.frame (M : Mem) : Frame sig Bf := ⟨Bf.sh, Bf.el, M.ref⟩

/-- A window of a matrix lies inside it. -/
theorem inb2 {R C r c h w : ℕ} (hr : r + h ≤ R) (hc : c + w ≤ C) :
    ∀ a, (![r, c] : Fin 2 → ℕ) a + (![h, w] : Fin 2 → ℕ) a ≤ (![R, C] : Fin 2 → ℕ) a := by
  intro a
  match a with
  | ⟨0, _⟩ => exact hr
  | ⟨1, _⟩ => exact hc

/-- A window of an array of three axes lies inside it. -/
theorem inb3 {A B C a b c x y z : ℕ} (ha : a + x ≤ A) (hb : b + y ≤ B) (hc : c + z ≤ C) :
    ∀ i, (![a, b, c] : Fin 3 → ℕ) i + (![x, y, z] : Fin 3 → ℕ) i ≤ (![A, B, C] : Fin 3 → ℕ) i := by
  intro i
  match i with
  | ⟨0, _⟩ => exact ha
  | ⟨1, _⟩ => exact hb
  | ⟨2, _⟩ => exact hc

/-- A window of a matrix whose first row and height are whole words is stored row by row. -/
theorem packed2 {R C r c h w p : ℕ} (inb : ∀ a, (![r, c] : Fin 2 → ℕ) a + (![h, w] : Fin 2 → ℕ) a ≤ (![R, C] : Fin 2 → ℕ) a)
    (hr : p ∣ r) (hh : p ∣ h) : (Rect.unit (s := ⟨2, ![R, C]⟩) ![r, c] ![h, w] inb).PackedRows p :=
  .inr ⟨Nat.le_refl 2, rfl, .inl ⟨hr, hh⟩⟩

section Tiles

/-- The squares of a tile of `x`. -/
def sqTile (x : Vec F S32x256 .bf16) : FVec F S32x256 .f32 :=
  mulf (extf .f32 x bitsLt_bf16_f32) (extf .f32 x bitsLt_bf16_f32)

/-- A tile of `x` times the gains. -/
def xgTile (x : Vec F S32x256 .bf16) (g : Vec F S1x256 .f32) : FVec F S32x256 .f32 :=
  mulf (extf .f32 x bitsLt_bf16_f32) (broadcastTo S32x256 g broadcasts_S1x256_S32x256)

/-- The reciprocal root of the mean square of each row. -/
def invRow (ssq : FVec F S32x256 .f32) : FVec F S32x1 .f32 :=
  divf (broadcast S32x1 (Scalar.ofBits .f32 0x3F800000#32))
    (sqrt (addf (divf (shapeCast S32x1 (multiReduction .add [1] S32 ssq 0x00000000#32 reduces_S32x256_S32 (.inl rfl) rfl) shapeCasts_S32_S32x1)
      (broadcast S32x1 (Scalar.ofBits .f32 0x45A80000#32))) (broadcast S32x1 (Scalar.ofBits .f32 0x358637BD#32))))

/-- The scale of each row, from its absolute maximum. -/
def scaleRow (ssq amax : FVec F S32x256 .f32) : FVec F S32x1 .f32 :=
  let mx := mulf (shapeCast S32x1 (multiReduction .maximumf [1] S32 amax 0xFF800000#32 reduces_S32x256_S32 (.inl rfl) rfl) shapeCasts_S32_S32x1) (invRow ssq)
  select (cmpf .ogt mx (broadcast S32x1 (Scalar.ofBits .f32 0x00000000#32)))
    (divf mx (broadcast S32x1 (Scalar.ofBits .f32 0x43E00000#32))) (broadcast S32x1 (Scalar.ofBits .f32 0x3F800000#32))

/-- The codes of a tile of `x`: times the row's coefficient, clipped. -/
def codeTile (coef : FVec F S32x1 .f32) (x : Vec F S32x256 .bf16) (g : Vec F S1x256 .f32) : FVec F S32x256 .fp8e4m3 :=
  truncf .fp8e4m3 (minimumf (broadcast S32x256 (Scalar.ofBits .f32 0x43E00000#32))
    (maximumf (broadcast S32x256 (Scalar.ofBits .f32 0xC3E00000#32)) (mulf (xgTile x g) (broadcastTo S32x256 coef broadcasts_S32x1_S32x256)))) bitsLt_fp8e4m3_f32

/-- A row of 128 scales, from a column of them. -/
def scaleLane (xs : Vec F S128x128 .f32) : FVec F S1x1x128 .f32 :=
  shapeCast S1x1x128 (extractStridedSlice S1x128 ![0, 0] (transpose S128x128 [1, 0] xs transposes_S128x128_p1_0_S128x128) slices_S128x128_o0_0_S1x128) shapeCasts_S1x128_S1x1x128

/-- A head's normalised rows. -/
def normTile (t : Vec F S64x128 .f32) (g : Vec F S1x128 .f32) : FVec F S64x128 .f32 :=
  mulf (mulf t (broadcastTo S64x128 (divf (broadcast S64x1 (Scalar.ofBits .f32 0x3F800000#32))
    (sqrt (addf (divf (shapeCast S64x1 (multiReduction .add [1] S64 (mulf t t) 0x00000000#32 reduces_S64x128_S64 (.inl rfl) rfl) shapeCasts_S64_S64x1)
      (broadcast S64x1 (Scalar.ofBits .f32 0x43000000#32))) (broadcast S64x1 (Scalar.ofBits .f32 0x358637BD#32))))) broadcasts_S64x1_S64x128))
    (broadcastTo S64x128 g broadcasts_S1x128_S64x128)

/-- The cosines, twice along the lanes. -/
def cosTile (c : Vec F S64x64 .f32) : FVec F S64x128 .f32 :=
  concatenate S64x128 1 [⟨S64x64, c⟩, ⟨S64x64, c⟩] concatenates_S64x64_S64x64_S64x128_d1

/-- The sines, negated on the first half of the lanes. -/
def sinTile (s : Vec F S64x64 .f32) : FVec F S64x128 .f32 :=
  concatenate S64x128 1 [⟨S64x64, subf (broadcast S64x64 (Scalar.ofBits .f32 0x00000000#32)) s⟩, ⟨S64x64, s⟩] concatenates_S64x64_S64x64_S64x128_d1

/-- A head's rotated rows. -/
def ropeTile (t c2 s2 : FVec F S64x128 .f32) : FVec F S64x128 .f32 :=
  addf (mulf t c2) (mulf (dynamicRotate 1 64#32 none t rotates_S64x128_d1) s2)

/-- The scale of each row of a head. -/
def headScale (t : FVec F S64x128 .f32) : FVec F S64x1 .f32 :=
  let mx := shapeCast S64x1 (multiReduction .maximumf [1] S64 (absf t) 0xFF800000#32 reduces_S64x128_S64 (.inl rfl) rfl) shapeCasts_S64_S64x1
  select (cmpf .ogt mx (broadcast S64x1 (Scalar.ofBits .f32 0x00000000#32)))
    (divf mx (broadcast S64x1 (Scalar.ofBits .f32 0x43E00000#32))) (broadcast S64x1 (Scalar.ofBits .f32 0x3F800000#32))

/-- The codes of a head's rows under their scales. -/
def headCode (t : FVec F S64x128 .f32) : FVec F S64x128 .fp8e4m3 :=
  truncf .fp8e4m3 (minimumf (broadcast S64x128 (Scalar.ofBits .f32 0x43E00000#32))
    (maximumf (broadcast S64x128 (Scalar.ofBits .f32 0xC3E00000#32))
      (mulf t (broadcastTo S64x128 (divf (broadcast S64x1 (Scalar.ofBits .f32 0x3F800000#32)) (headScale t)) broadcasts_S64x1_S64x128)))) bitsLt_fp8e4m3_f32

/-- A head's scales put in lane `l`. -/
def laneTile (l : BitVec 32) (t aux : FVec F S64x128 .f32) : FVec F S64x128 .f32 :=
  select (cmpi .eq (iota .tc S64x128 32 [1] iota_S64x128_d1_w32) (broadcast S64x128 l))
    (broadcastTo S64x128 (shapeCast S64x1 (headScale t) shapeCasts_S64x1_S64x1) broadcasts_S64x1_S64x128) aux

end Tiles

variable (U : Type) [URA U] (c : Dev nD) (M : Mem)

local notation "𝔸" => Act (nD := nD) (τ := τ) (Val := Elt F) U (defs₀ (F := F)) c (Mem.frame M)

/-- A load of a window. -/
def ld (j : Bf) (off size : Fin j.sh.rank → ℕ) (hp : 0 < (⟨j.sh.rank, size⟩ : Shape).numel) (inb : ∀ a, off a + size a ≤ j.sh.size a) :
    𝔸 (Vec F ⟨j.sh.rank, size⟩ j.el) :=
  Act.load (M := M.frame) j off size inb (View.loadsAt_vmem hp)

/-- A store of a window of a buffer of words. -/
def st (j : Bf) (off size : Fin j.sh.rank → ℕ) (hp : 0 < (⟨j.sh.rank, size⟩ : Shape).numel) (inb : ∀ a, off a + size a ≤ j.sh.size a)
    (hb : j.el.bits = 32) (w : Vec F ⟨j.sh.rank, size⟩ j.el) : 𝔸 PUnit :=
  Act.store (M := M.frame) j off size inb (View.stores_vmem_bits_univ hp hb) w

/-- A store of a window of whole words of a buffer of narrower elements. -/
def stp (j : Bf) (off size : Fin j.sh.rank → ℕ) (hp : 0 < (⟨j.sh.rank, size⟩ : Shape).numel) (inb : ∀ a, off a + size a ≤ j.sh.size a)
    (hr : (Rect.unit (s := j.sh) off size inb).PackedRows j.el.packing) (w : Vec F ⟨j.sh.rank, size⟩ j.el) : 𝔸 PUnit :=
  Act.store (M := M.frame) j off size inb (View.stores_vmem hp ((M.whole j).storeExact_slice rfl _ hr) (fun _ => rfl)) w

/-- One block of 128 columns of the products: scaled and stored. -/
def matmulCol (acc : FVec F S256x512 .f32) (n : ℕ) (hn : n < 4) (k : ℕ) (hk : k < 4) : 𝔸 PUnit := do
  let t : Vec F S1x128 .f32 ← ld U c M .s ![0, 512 * n + 128 * k] S1x128.size h_S1x128 (inb2 (by omega) (by omega))
  let y : Vec F S256x128 .f32 ← ld U c M .xsR ![0, 0] S256x128.size h_S256x128 (inb2 (by omega) (by omega))
  let _ ← ld U c M .qkvW ![0, 512 * n + 128 * k] S256x128.size h_S256x128 (inb2 (by omega) (by omega))
  st U c M .qkvW ![0, 512 * n + 128 * k] S256x128.size h_S256x128 (inb2 (by omega) (by omega)) rfl
    (shapeCast S256x128 (mulf (extractStridedSlice S256x128 ![0, 128 * k] acc ⟨rfl, inb2 (by omega) (by omega)⟩)
      (mulf y (broadcastTo S256x128 t broadcasts_S1x128_S256x128))) shapeCasts_S256x128_S256x128)

/-- One quarter of the columns: the products of the codes before it, scaled. -/
def matmulQuarter (n : ℕ) (hn : n < 4) : 𝔸 PUnit := do
  let a : Vec F S256x5376 .fp8e4m3 ← ld U c M .codesR ![0, 0] S256x5376.size h_S256x5376 (inb2 (by omega) (by omega))
  let b : Vec F S5376x512 .fp8e4m3 ← ld U c M .w ![0, 512 * n] S5376x512.size h_S5376x512 (inb2 (by omega) (by omega))
  Act.loop 4 (fun k hk _ => matmulCol U c M
    (matmul dot_S256x5376_S5376x512_S256x512_1_0_0_1_n_n none a b (constant S256x512 .f32 0x00000000#32)) n hn k hk) ⟨⟩

/-- The matmul stage: codes times weights, scaled. -/
def matmulStage : 𝔸 PUnit := Act.loop 4 (fun n hn _ => matmulQuarter U c M n hn) ⟨⟩

/-- One tile of the first pass over a row group: the running squares and maxima. -/
def statTile (r : ℕ) (hr : r < 8) (k : ℕ) (hk : k < 21) (a : FVec F S32x256 .f32 × FVec F S32x256 .f32) :
    𝔸 (FVec F S32x256 .f32 × FVec F S32x256 .f32) := do
  let x : Vec F S32x256 .bf16 ← ld U c M .x ![32 * r, 256 * k] S32x256.size h_S32x256 (inb2 (by omega) (by omega))
  let g : Vec F S1x256 .f32 ← ld U c M .g ![0, 256 * k] S1x256.size h_S1x256 (inb2 (by omega) (by omega))
  pure (addf a.1 (sqTile x), maximumf a.2 (absf (xgTile x g)))

/-- One tile of the second pass over a row group: the codes, kept and written out. -/
def quantTile (coef : FVec F S32x1 .f32) (r : ℕ) (hr : r < 8) (k : ℕ) (hk : k < 21) : 𝔸 PUnit := do
  let x : Vec F S32x256 .bf16 ← ld U c M .x ![32 * r, 256 * k] S32x256.size h_S32x256 (inb2 (by omega) (by omega))
  let g : Vec F S1x256 .f32 ← ld U c M .g ![0, 256 * k] S1x256.size h_S1x256 (inb2 (by omega) (by omega))
  let _ ← ld U c M .codesW ![32 * r, 256 * k] S32x256.size h_S32x256 (inb2 (by omega) (by omega))
  stp U c M .codesW ![32 * r, 256 * k] S32x256.size h_S32x256 (inb2 (by omega) (by omega)) (packed2 _ (Nat.dvd_mul_right_of_dvd (by decide) _) (by decide))
    (shapeCast S32x256 (codeTile coef x g) shapeCasts_S32x256_S32x256)
  let _ ← ld U c M .codesO ![32 * r, 256 * k] S32x256.size h_S32x256 (inb2 (by omega) (by omega))
  stp U c M .codesO ![32 * r, 256 * k] S32x256.size h_S32x256 (inb2 (by omega) (by omega)) (packed2 _ (Nat.dvd_mul_right_of_dvd (by decide) _) (by decide))
    (codeTile coef x g)

/-- A row group quantised. -/
def quantRows (r : ℕ) (hr : r < 8) : 𝔸 PUnit := do
  let a ← Act.loop 21 (fun k hk a => statTile U c M r hr k hk a)
    ((broadcast S32x256 (Scalar.ofBits .f32 0x00000000#32) : FVec F S32x256 .f32), (broadcast S32x256 (Scalar.ofBits .f32 0x00000000#32) : FVec F S32x256 .f32))
  let _ ← ld U c M .xsW ![32 * r, 0] S32x128.size h_S32x128 (inb2 (by omega) (by omega))
  st U c M .xsW ![32 * r, 0] S32x128.size h_S32x128 (inb2 (by omega) (by omega)) rfl
    (shapeCast S32x128 (broadcastTo S32x128 (shapeCast S32x1 (scaleRow a.1 a.2) shapeCasts_S32x1_S32x1) broadcasts_S32x1_S32x128) shapeCasts_S32x128_S32x128)
  Act.loop 21 (fun k hk _ => quantTile U c M (divf (invRow a.1) (scaleRow a.1 a.2)) r hr k hk) ⟨⟩

/-- 128 scales laid along the lanes. -/
def scaleOut (r : ℕ) (hr : r < 2) : 𝔸 PUnit := do
  let y : Vec F S128x128 .f32 ← ld U c M .xsW ![128 * r, 0] S128x128.size h_S128x128 (inb2 (by omega) (by omega))
  let _ ← ld U c M .scalesO ![0, r, 0] S1x1x128.size h_S1x1x128 (inb3 (by omega) (by omega) (by omega))
  st U c M .scalesO ![0, r, 0] S1x1x128.size h_S1x1x128 (inb3 (by omega) (by omega) (by omega)) rfl (scaleLane y)

/-- The quantising stage. -/
def quantStage : 𝔸 PUnit := do
  Act.loop 8 (fun r hr _ => quantRows U c M r hr) ⟨⟩
  Act.loop 2 (fun r hr _ => scaleOut U c M r hr) ⟨⟩

/-- A query head of a row group. -/
def headQ (c2 s2 : FVec F S64x128 .f32) (r : ℕ) (hr : r < 4) (h : ℕ) (hh : h < 8) : 𝔸 PUnit := do
  let t : Vec F S64x128 .f32 ← ld U c M .qkvR ![64 * r, 128 * h] S64x128.size h_S64x128 (inb2 (by omega) (by omega))
  let g : Vec F S1x128 .f32 ← ld U c M .gq ![0, 0] S1x128.size h_S1x128 (inb2 (by omega) (by omega))
  let _ ← ld U c M .q ![64 * r, 128 * h] S64x128.size h_S64x128 (inb2 (by omega) (by omega))
  stp U c M .q ![64 * r, 128 * h] S64x128.size h_S64x128 (inb2 (by omega) (by omega)) (packed2 _ (Nat.dvd_mul_right_of_dvd (by decide) _) (by decide))
    (truncf .bf16 (ropeTile (normTile t g) c2 s2) bitsLt_bf16_f32)

/-- A key head of a row group; its scales go to a lane of their own. -/
def headK (c2 s2 : FVec F S64x128 .f32) (r : ℕ) (hr : r < 4) (h : ℕ) (hh : h < 4) (aux : FVec F S64x128 .f32) : 𝔸 (FVec F S64x128 .f32) := do
  let t : Vec F S64x128 .f32 ← ld U c M .qkvR ![64 * r, 1024 + 128 * h] S64x128.size h_S64x128 (inb2 (by omega) (by omega))
  let g : Vec F S1x128 .f32 ← ld U c M .gk ![0, 0] S1x128.size h_S1x128 (inb2 (by omega) (by omega))
  let _ ← ld U c M .k ![64 * r, 128 * h] S64x128.size h_S64x128 (inb2 (by omega) (by omega))
  stp U c M .k ![64 * r, 128 * h] S64x128.size h_S64x128 (inb2 (by omega) (by omega)) (packed2 _ (Nat.dvd_mul_right_of_dvd (by decide) _) (by decide))
    (headCode (ropeTile (normTile t g) c2 s2))
  pure (laneTile (BitVec.ofNat 32 h) (ropeTile (normTile t g) c2 s2) aux)

/-- A value head of a row group; its scales go to a lane of their own. -/
def headV (r : ℕ) (hr : r < 4) (h : ℕ) (hh : h < 4) (aux : FVec F S64x128 .f32) : 𝔸 (FVec F S64x128 .f32) := do
  let t : Vec F S64x128 .f32 ← ld U c M .qkvR ![64 * r, 1536 + 128 * h] S64x128.size h_S64x128 (inb2 (by omega) (by omega))
  let _ ← ld U c M .v ![64 * r, 128 * h] S64x128.size h_S64x128 (inb2 (by omega) (by omega))
  stp U c M .v ![64 * r, 128 * h] S64x128.size h_S64x128 (inb2 (by omega) (by omega)) (packed2 _ (Nat.dvd_mul_right_of_dvd (by decide) _) (by decide))
    (headCode t)
  pure (laneTile (BitVec.ofNat 32 (4 + h)) t aux)

/-- The heads of a row group. -/
def headRows (r : ℕ) (hr : r < 4) : 𝔸 PUnit := do
  let cs : Vec F S64x64 .f32 ← ld U c M .cos ![64 * r, 0] S64x64.size h_S64x64 (inb2 (by omega) (by omega))
  let sn : Vec F S64x64 .f32 ← ld U c M .sin ![64 * r, 0] S64x64.size h_S64x64 (inb2 (by omega) (by omega))
  Act.loop 8 (fun h hh _ => headQ U c M (cosTile cs) (sinTile sn) r hr h hh) ⟨⟩
  let aux ← Act.loop 4 (fun h hh aux => headK U c M (cosTile cs) (sinTile sn) r hr h hh aux) (broadcast S64x128 (Scalar.ofBits .f32 0x00000000#32) : FVec F S64x128 .f32)
  let aux ← Act.loop 4 (fun h hh aux => headV U c M r hr h hh aux) aux
  let _ ← ld U c M .sc ![64 * r, 0] S64x128.size h_S64x128 (inb2 (by omega) (by omega))
  st U c M .sc ![64 * r, 0] S64x128.size h_S64x128 (inb2 (by omega) (by omega)) rfl aux

/-- The head stage. -/
def headStage : 𝔸 PUnit := Act.loop 4 (fun r hr _ => headRows U c M r hr) ⟨⟩

end Cert.ProjectIdeal.Val
-- ==== Proof.Math.lean ====
/-
  The mathematics of the two kernels over the extended reals, row by row: the absolute maximum, the scale and the codes
  of a row, the root mean square norm and the rotation, and the few identities between the ways the kernel and the
  reference write them.
-/
module

public import Idealize.ShloMosaic.Lib.Pointwise

@[expose] public section

noncomputable section

namespace Cert.Math

open Idealize.ShloMosaic

/-- 448, the largest code. -/
abbrev hi : EReal := Ideal.ofBits .f32 0x43E00000#32
/-- -448, the least code. -/
abbrev lo : EReal := Ideal.ofBits .f32 0xC3E00000#32
/-- What a maximum starts from. -/
abbrev bot : EReal := Ideal.ofBits .f32 0xFF800000#32
/-- What is added to a mean square. -/
abbrev eps : EReal := Ideal.ofBits .f32 0x358637BD#32
/-- 5376. -/
abbrev nModel : EReal := Ideal.ofBits .f32 0x45A80000#32
/-- 128. -/
abbrev nHead : EReal := Ideal.ofBits .f32 0x43000000#32

theorem bot_eq : bot = ⊥ := by simp [bot, Ideal.ofBits, Ideal.ieee]
theorem hi_eq : hi = ((448 : ℝ) : EReal) := by simp [hi, Ideal.ofBits, Ideal.ieee, -EReal.coe_mul]; norm_num
theorem nModel_eq : nModel = ((5376 : ℝ) : EReal) := by simp [nModel, Ideal.ofBits, Ideal.ieee, -EReal.coe_mul]; norm_num
theorem nHead_eq : nHead = ((128 : ℝ) : EReal) := by simp [nHead, Ideal.ofBits, Ideal.ieee, -EReal.coe_mul]; norm_num
theorem eps_pos : 0 < eps := by
  have : eps = ((8796093 * (2 : ℝ) ^ (-43 : ℤ) : ℝ) : EReal) := by
    simp [eps, Ideal.ofBits, Ideal.ieee, -EReal.coe_mul]
  rw [this]
  exact_mod_cast (by positivity : (0 : ℝ) < 8796093 * (2 : ℝ) ^ (-43 : ℤ))

theorem nModel_pos : 0 < nModel := by rw [nModel_eq]; exact_mod_cast (by norm_num : (0 : ℝ) < 5376)
theorem nHead_pos : 0 < nHead := by rw [nHead_eq]; exact_mod_cast (by norm_num : (0 : ℝ) < 128)
theorem hi_pos : 0 < hi := by rw [hi_eq]; exact_mod_cast (by norm_num : (0 : ℝ) < 448)

/-- The absolute maximum of a row. -/
def top {n : ℕ} (v : Fin n → EReal) : EReal := Finset.univ.fold max bot fun k => max (v k) (-v k)

/-- The scale of a row of absolute maximum `a`. -/
def scale (a : EReal) : EReal := if 0 < a then Ideal.div a hi else 1

/-- Clipped to what a code can hold. -/
def clip (y : EReal) : EReal := min hi (max lo y)

/-- The codes of a row. -/
def code {n : ℕ} (v : Fin n → EReal) (k : Fin n) : EReal := clip (Ideal.div (v k) (scale (top v)))

/-- The root of the mean square of a row of `N` entries. -/
def root {n : ℕ} (N : EReal) (v : Fin n → EReal) : EReal := Ideal.sqrt (Ideal.div (∑ k, v k * v k) N + eps)

/-- A row over the root of its mean square, times the gains. -/
def norm {n : ℕ} (N : EReal) (v g : Fin n → EReal) (k : Fin n) : EReal := Ideal.div (v k) (root N v) * g k

/-- A row of 128 rotated: its halves are the two coordinates of 64 planes. -/
def rope (v : Fin 128 → EReal) (c s : Fin 64 → EReal) (l : Fin 128) : EReal :=
  if h : l.val < 64 then v l * c ⟨l, h⟩ - v ⟨l + 64, by omega⟩ * s ⟨l, h⟩
  else v l * c ⟨l - 64, by omega⟩ + v ⟨l - 64, by omega⟩ * s ⟨l - 64, by omega⟩

theorem div_eq {x y : EReal} (h : 0 < y) : Ideal.div x y = x * y⁻¹ := by
  rw [Ideal.div, if_neg h.ne']

theorem sqrt_pos {x : EReal} (h : 0 < x) : 0 < Ideal.sqrt x := by
  induction x with
  | bot => exact absurd h (by simp)
  | top => exact h
  | coe r =>
    have hr : 0 < r := by exact_mod_cast h
    have : Ideal.sqrt ((r : ℝ) : EReal) = ((Real.sqrt r : ℝ) : EReal) := by
      show (if r < 0 then ⊥ else (Real.sqrt r : EReal)) = _
      rw [if_neg (not_lt.2 hr.le)]
    rw [this]
    exact_mod_cast Real.sqrt_pos.2 hr

theorem mul_self_nonneg (x : EReal) : 0 ≤ x * x := by
  rcases le_total 0 x with h | h
  · exact mul_nonneg h h
  · rw [← neg_mul_neg]
    exact mul_nonneg (EReal.neg_nonneg.2 h) (EReal.neg_nonneg.2 h)

theorem root_pos {n : ℕ} {N : EReal} (hN : 0 < N) (v : Fin n → EReal) : 0 < root N v := by
  refine sqrt_pos ?_
  rw [div_eq hN]
  refine lt_of_lt_of_le eps_pos (le_add_of_nonneg_left ?_)
  exact mul_nonneg (Finset.sum_nonneg fun k _ => mul_self_nonneg (v k)) (EReal.inv_nonneg_of_nonneg hN.le)

theorem scale_pos (a : EReal) : 0 < scale a := by
  unfold scale
  split
  · next h =>
    rw [div_eq hi_pos, hi_eq]
    exact EReal.mul_pos h (by rw [← EReal.coe_inv]; exact_mod_cast (by norm_num : (0 : ℝ) < (448)⁻¹))
  · exact zero_lt_one

theorem fold_max_le {n : ℕ} (f : Fin n → EReal) (c : EReal) : Finset.univ.fold max bot f ≤ c ↔ ∀ k, f k ≤ c := by
  rw [Finset.fold_max_le, bot_eq]
  simp

theorem top_le {n : ℕ} (v : Fin n → EReal) (c : EReal) : top v ≤ c ↔ ∀ k, max (v k) (-v k) ≤ c := fold_max_le _ c

/-- The absolute value of a product with a factor that is not negative. -/
theorem abs_mul_nonneg {x c : EReal} (hc : 0 ≤ c) : max (x * c) (-(x * c)) = max x (-x) * c := by
  rw [← neg_mul]
  rcases le_total x (-x) with h | h
  · rw [max_eq_right h, max_eq_right (mul_le_mul_of_nonneg_right h hc)]
  · rw [max_eq_left h, max_eq_left (mul_le_mul_of_nonneg_right h hc)]

theorem fold_max_mul {n : ℕ} (hn : 0 < n) (f : Fin n → EReal) {c : EReal} (hc : 0 ≤ c) :
    Finset.univ.fold max bot (fun k => f k * c) = Finset.univ.fold max bot f * c := by
  apply le_antisymm
  · rw [fold_max_le]
    exact fun k => mul_le_mul_of_nonneg_right ((fold_max_le f _).1 le_rfl k) hc
  · obtain ⟨k, hk⟩ : ∃ k, Finset.univ.fold max bot f = f k := by
      have : Nonempty (Fin n) := ⟨⟨0, hn⟩⟩
      obtain ⟨k, -, hk⟩ := Finset.exists_max_image Finset.univ f Finset.univ_nonempty
      exact ⟨k, le_antisymm ((fold_max_le f _).2 fun j => hk j (Finset.mem_univ j)) ((fold_max_le f _).1 le_rfl k)⟩
    rw [hk]
    exact (fold_max_le (fun k => f k * c) _).1 le_rfl k

/-- The absolute maximum of a normalised row, from that of the row times the gains. -/
theorem top_norm {n : ℕ} (hn : 0 < n) {N : EReal} (hN : 0 < N) (v g : Fin n → EReal) :
    top (norm N v g) = (Finset.univ.fold max bot fun k => max (v k * g k) (-(v k * g k))) * Ideal.div 1 (root N v) := by
  have hr := root_pos hN v
  have hc : 0 ≤ (root N v)⁻¹ := EReal.inv_nonneg_of_nonneg hr.le
  rw [div_eq hr, one_mul, ← fold_max_mul hn _ hc]
  unfold top
  congr 1
  funext k
  rw [← abs_mul_nonneg hc]
  unfold norm
  rw [div_eq hr, mul_right_comm]

/-- The code of a normalised entry, from the entry times the gain and one coefficient. -/
theorem code_norm {n : ℕ} {N : EReal} (hN : 0 < N) (v g : Fin n → EReal) (k : Fin n) :
    clip (v k * g k * Ideal.div (Ideal.div 1 (root N v)) (scale (top (norm N v g)))) = code (norm N v g) k := by
  have hr := root_pos hN v
  have hs := scale_pos (top (norm N v g))
  unfold code
  congr 1
  rw [div_eq hs, div_eq hs, div_eq hr, one_mul]
  unfold norm
  rw [div_eq hr, ← mul_assoc, mul_right_comm (v k) (g k)]

theorem norm_eq {n : ℕ} {N : EReal} (hN : 0 < N) (v g : Fin n → EReal) (k : Fin n) :
    v k * Ideal.div 1 (root N v) * g k = norm N v g k := by
  have hr := root_pos hN v
  unfold norm
  rw [div_eq hr, div_eq hr, one_mul]

theorem code_eq {n : ℕ} (v : Fin n → EReal) (k : Fin n) : clip (v k * Ideal.div 1 (scale (top v))) = code v k := by
  have hs := scale_pos (top v)
  unfold code
  rw [div_eq hs, div_eq hs, one_mul]

/-- The rotation with the sines negated on the first half. -/
theorem rope_eq (v : Fin 128 → EReal) (c s : Fin 64 → EReal) (l : Fin 128) (m : Fin 128) (hm : m.val = (l.val + 128 - 64) % 128) :
    (v l * if h : l.val < 64 then c ⟨l, h⟩ else c ⟨l - 64, by omega⟩)
      + (v m * if h : l.val < 64 then 0 - s ⟨l, h⟩ else s ⟨l - 64, by omega⟩) = rope v c s l := by
  unfold rope
  split
  · next h =>
    have : m = ⟨l.val + 64, by omega⟩ := Fin.ext (by have := l.isLt; rw [hm]; simp only; omega)
    rw [this, zero_sub, mul_neg, ← sub_eq_add_neg]
  · next h =>
    have : m = ⟨l.val - 64, by omega⟩ := Fin.ext (by have := l.isLt; rw [hm]; simp only; omega)
    rw [this]

theorem abs_nonneg (x : EReal) : 0 ≤ max x (-x) := by
  rcases le_total 0 x with h | h
  · exact le_max_of_le_left h
  · exact le_max_of_le_right (EReal.neg_nonneg.2 h)

/-- Entry `k` of a row, and nothing beyond its end. -/
def entry {n : ℕ} (v : Fin n → EReal) (k : ℕ) : EReal := if h : k < n then v ⟨k, h⟩ else 0

theorem entry_lt {n : ℕ} (v : Fin n → EReal) {k : ℕ} (h : k < n) : entry v k = v ⟨k, h⟩ := dif_pos h

/-- A sum over a row, taken lane by lane over tiles of `T` lanes. -/
theorem sum_lanes {N : ℕ} (J T : ℕ) (hN : J * T = N) (v : Fin N → EReal) :
    (∑ l : Fin T, ∑ k ∈ Finset.range J, entry v (T * k + l.val)) = ∑ m, v m := by
  rw [Fin.sum_univ_tiles J T hN v, Finset.sum_comm, Finset.sum_range]
  refine Finset.sum_congr rfl fun j _ => Finset.sum_congr rfl fun t _ => ?_
  have e : T * j.val + t.val = j.val * T + t.val := by rw [Nat.mul_comm]
  rw [e, entry_lt]

/-- A maximum of absolute values over a row, taken lane by lane over tiles of `T` lanes from zero on. -/
theorem max_lanes {N : ℕ} (J T : ℕ) (hT : 0 < T) (hJ : 0 < J) (hN : J * T = N) (v : Fin N → EReal) (a : Fin T → EReal)
    (ha : ∀ l c, a l ≤ c ↔ 0 ≤ c ∧ ∀ k < J, max (entry v (T * k + l.val)) (-entry v (T * k + l.val)) ≤ c) :
    Finset.univ.fold max bot a = Finset.univ.fold max bot fun m => max (v m) (-v m) := by
  refine eq_of_forall_ge_iff fun c => ?_
  rw [fold_max_le, fold_max_le]
  have hlt : ∀ {k l : ℕ}, k < J → l < T → T * k + l < N := fun {k l} hk hl => by
    subst hN
    calc T * k + l < T * k + T := by omega
      _ = T * (k + 1) := by rw [Nat.mul_add, Nat.mul_one]
      _ ≤ T * J := Nat.mul_le_mul_left _ hk
      _ = J * T := Nat.mul_comm _ _
  constructor
  · intro h m
    have hk : m.val / T < J := Nat.div_lt_of_lt_mul (by rw [Nat.mul_comm, hN]; exact m.isLt)
    have := ((ha ⟨m.val % T, Nat.mod_lt _ hT⟩ c).1 (h _)).2 (m.val / T) hk
    have e : T * (m.val / T) + m.val % T = m.val := Nat.div_add_mod _ _
    simp only [e, entry_lt v m.isLt] at this
    exact this
  · intro h l
    refine (ha l c).2 ⟨le_trans (abs_nonneg _) (h ⟨0, by rw [← hN]; exact Nat.mul_pos hJ hT⟩), fun k hk => ?_⟩
    rw [entry_lt v (hlt hk l.isLt)]
    exact h _

end Cert.Math
-- ==== Proof.Project.Reads.lean ====
/-
  The tiles of the projection kernel over the extended reals, entry by entry, and the row functions they compute.
-/
module

public import proofs.«01_k».proof.Proof.Project.Body
public import proofs.«01_k».proof.Proof.Math
public import Idealize.ShloMosaic.Lib.MatmulPlain

@[expose] public section

noncomputable section

namespace Cert.ProjectIdeal.Val

open Idealize.ShloMosaic Idealize.ShloMosaic.TcCoe
open Cert.Math
open Facts₀ Facts

variable [Facts]

theorem sqTile_apply (x : Vec Ideal S32x256 .bf16) (r : Fin 32) (l : Fin 256) :
    sqTile (F := Ideal) x (ix2 r l) = (x (ix2 r l) * x (ix2 r l) : EReal) := by
  pointwise [sqTile]

theorem xgTile_apply (x : Vec Ideal S32x256 .bf16) (g : Vec Ideal S1x256 .f32) (r : Fin 32) (l : Fin 256) :
    xgTile (F := Ideal) x g (ix2 r l) = (x (ix2 r l) * g (ix2 0 l) : EReal) := by
  pointwise [xgTile]

theorem statSq_apply (a : FVec Ideal S32x256 .f32) (x : Vec Ideal S32x256 .bf16) (r : Fin 32) (l : Fin 256) :
    addf (F := Ideal) a (sqTile x) (ix2 r l) = (a (ix2 r l) + x (ix2 r l) * x (ix2 r l) : EReal) := by
  pointwise [sqTile]

theorem statMax_apply (a : FVec Ideal S32x256 .f32) (x : Vec Ideal S32x256 .bf16) (g : Vec Ideal S1x256 .f32) (r : Fin 32) (l : Fin 256) :
    maximumf (F := Ideal) a (absf (xgTile x g)) (ix2 r l) = (max (a (ix2 r l)) (max (x (ix2 r l) * g (ix2 0 l)) (-(x (ix2 r l) * g (ix2 0 l)))) : EReal) := by
  pointwise [xgTile]
  rfl

theorem spread_apply (t : FVec Ideal S32x1 .f32) (r : Fin 32) (l : Fin 128) :
    shapeCast S32x128 (broadcastTo S32x128 (shapeCast S32x1 t shapeCasts_S32x1_S32x1) broadcasts_S32x1_S32x128) shapeCasts_S32x128_S32x128 (ix2 r l) = t (ix2 r 0) := by
  pointwise []

theorem zeros_apply (r : Fin 32) (l : Fin 256) :
    (broadcast S32x256 (Scalar.ofBits .f32 0x00000000#32) : FVec Ideal S32x256 .f32) (ix2 r l) = (0 : EReal) := by
  pointwise []

theorem codeTile_apply (x : Vec Ideal S32x256 .bf16) (g : Vec Ideal S1x256 .f32) (co : FVec Ideal S32x1 .f32) (r : Fin 32) (l : Fin 256) :
    codeTile (F := Ideal) co x g (ix2 r l) = clip (x (ix2 r l) * g (ix2 0 l) * co (ix2 r 0)) := by
  pointwise [codeTile, xgTile]
  rfl

theorem invRow_apply (s : FVec Ideal S32x256 .f32) (r : Fin 32) :
    invRow (F := Ideal) s (ix2 r 0) = Ideal.div 1 (Ideal.sqrt (Ideal.div (∑ l : Fin 256, s (ix2 r l)) nModel + eps)) := by
  pointwise [invRow]

theorem scaleRow_apply (s a : FVec Ideal S32x256 .f32) (r : Fin 32) :
    scaleRow (F := Ideal) s a (ix2 r 0)
      = scale (Finset.univ.fold max bot (fun l : Fin 256 => a (ix2 r l)) * Ideal.div 1 (Ideal.sqrt (Ideal.div (∑ l : Fin 256, s (ix2 r l)) nModel + eps))) := by
  pointwise [scaleRow, invRow]
  rfl

theorem scaleLane_apply (x : Vec Ideal S128x128 .f32) (l : Fin 128) :
    scaleLane (F := Ideal) x (ix3 0 0 l) = x (ix2 l 0) := by
  pointwise [scaleLane]

theorem matmulTile_apply (acc : FVec Ideal S256x512 .f32) (y : Vec Ideal S256x128 .f32) (t : Vec Ideal S1x128 .f32) (k : ℕ) (hk : k < 4)
    (h) (i : Fin 256) (j : Fin 128) :
    shapeCast S256x128 (mulf (F := Ideal) (extractStridedSlice S256x128 ![0, 128 * k] acc h) (mulf y (broadcastTo S256x128 t broadcasts_S1x128_S256x128))) shapeCasts_S256x128_S256x128 (ix2 i j)
      = (acc (ix2 i ⟨128 * k + j.val, by omega⟩) * (y (ix2 i j) * t (ix2 0 j)) : EReal) := by
  pointwise []

theorem products_apply (a : FVec Ideal S256x5376 .fp8e4m3) (b : FVec Ideal S5376x512 .fp8e4m3) (i : Fin 256) (n : Fin 512) :
    matmul (F := Ideal) dot_S256x5376_S5376x512_S256x512_1_0_0_1_n_n none a b (constant S256x512 .f32 0x00000000#32) (ix2 i n)
      = (∑ k : Fin 5376, a (ix2 i k) * b (ix2 k n) : EReal) := by
  refine (Ideal.matmul_plain_apply (M := 256) (K := 5376) (N := 512) none a b _ i n).trans ?_
  have hz : (constant (F := Ideal) S256x512 .f32 0x00000000#32 (ix2 i n) : EReal) = 0 := by pointwise []
  exact (congrArg (fun z : EReal => z + _) hz).trans (zero_add _)

theorem head_apply (x : Vec Ideal S64x128 .f32) (g : Vec Ideal S1x128 .f32) (c s : Vec Ideal S64x64 .f32) (r : Fin 64) (l : Fin 128) :
    ropeTile (F := Ideal) (normTile x g) (cosTile c) (sinTile s) (ix2 r l)
      = rope (norm nHead (fun l => x (ix2 r l)) fun l => g (ix2 0 l)) (fun l => c (ix2 r l)) (fun l => s (ix2 r l)) l := by
  rw [← rope_eq _ _ _ l ⟨(l.val + 128 - 64) % 128, Nat.mod_lt _ (by decide)⟩ rfl, ← norm_eq nHead_pos, ← norm_eq nHead_pos]
  pointwise [ropeTile, normTile, cosTile, sinTile]
  rfl

theorem headScale_apply (t : FVec Ideal S64x128 .f32) (r : Fin 64) :
    headScale (F := Ideal) t (ix2 r 0) = scale (top fun l => t (ix2 r l)) := by
  pointwise [headScale]
  rfl

theorem headCode_apply (t : FVec Ideal S64x128 .f32) (r : Fin 64) (l : Fin 128) :
    headCode (F := Ideal) t (ix2 r l) = code (fun l => t (ix2 r l)) l := by
  rw [← code_eq, ← headScale_apply]
  pointwise [headCode]
  rfl

theorem laneTile_apply (t aux : FVec Ideal S64x128 .f32) (h : ℕ) (hh : h < 8) (r : Fin 64) (l : Fin 128) :
    laneTile (F := Ideal) (BitVec.ofNat 32 h) t aux (ix2 r l) = (if l.val = h then scale (top fun l => t (ix2 r l)) else aux (ix2 r l) : EReal) := by
  rw [← headScale_apply]
  have : (Scalar.select (IntOp.cmpi .eq (BitVec.ofNat 32 l.val) (BitVec.ofNat 32 h)) (headScale (F := Ideal) t (ix2 r 0)) (aux (ix2 r l)) : EReal)
      = if l.val = h then headScale (F := Ideal) t (ix2 r 0) else aux (ix2 r l) := by
    have hl : (BitVec.ofNat 32 l.val = BitVec.ofNat 32 h) ↔ l.val = h := by
      rw [← BitVec.toNat_inj, BitVec.toNat_ofNat, BitVec.toNat_ofNat]
      omega
    unfold Scalar.select
    by_cases e : l.val = h
    · simp [IntOp.cmpi, e]
    · simp [IntOp.cmpi, beq_eq_false_iff_ne.2 fun c => e (hl.1 c), e]
  rw [← this]
  pointwise [laneTile]

end Cert.ProjectIdeal.Val
-- ==== Proof.Tiles.lean ====
/-
  Reading a structured body's plain function: loops by an invariant, windows of matrices entry by entry, and the part
  of a matrix a sequence of stored windows has made right so far.
-/
module

public import proofs.«01_k».proof.Proof.Act
public import Idealize.ShloMosaic.Lib.Pointwise

@[expose] public section

noncomputable section

namespace Cert.Body

open Idealize.ShloMosaic Idealize.ShloMosaic.TcCoe
open Idealize.SL Idealize.SL.RA Idealize.SL.BI Idealize.SL.Sem

section Loops

variable {nD : ℕ} {τ : Topo} {sig : RefSig} {Val : EltTy → Type} [∀ e, Nonempty (Val e)] {Λ : Labels} {U : Type} [URA U]
variable {ι : Type} [Fintype ι] [DecidableEq ι] {α : Type}
variable {defs : Defs nD τ sig Val Λ} {c : Dev nD} {M : Frame sig ι}

theorem rounds_spec {N : ℕ} (f : (i : ℕ) → i < N → α → Act U defs c M α) (P : ℕ → α → Bufs Val M → Prop)
    (step : ∀ i (h : i < N) a b, P i a b → P (i + 1) ((f i h a).sem b).1 ((f i h a).sem b).2) :
    ∀ n lo (h : lo + n ≤ N) a b, P lo a b → P (lo + n) ((Act.rounds f n lo h a).sem b).1 ((Act.rounds f n lo h a).sem b).2
  | 0, _, _, _, _, hP => hP
  | n + 1, lo, h, a, b, hP => by
    have := rounds_spec f P step n (lo + 1) (by omega) _ _ (step lo (by omega) a b hP)
    rw [show lo + (n + 1) = lo + 1 + n by omega]
    exact this

/-- An invariant of every round holds of what a loop ends with. -/
theorem loop_spec {N : ℕ} (f : (i : ℕ) → i < N → α → Act U defs c M α) (P : ℕ → α → Bufs Val M → Prop)
    (step : ∀ i (h : i < N) a b, P i a b → P (i + 1) ((f i h a).sem b).1 ((f i h a).sem b).2) (a : α) (b : Bufs Val M) (h0 : P 0 a b) :
    P N ((Act.loop N f a).sem b).1 ((Act.loop N f a).sem b).2 := by
  have := rounds_spec f P step N 0 (by omega) a b h0
  exact (congrArg (fun K => P K _ _) (Nat.zero_add N)).mp this

theorem sem_bind {β : Type} (x : Act U defs c M α) (f : α → Act U defs c M β) (b : Bufs Val M) :
    (x >>= f).sem b = (f (x.sem b).1).sem (x.sem b).2 := (rfl)

end Loops

section Windows

variable {V : Type} {R C r c h w : ℕ}

/-- An entry of a window of a matrix. -/
theorem window2 (x : (⟨2, ![R, C]⟩ : Shape).Idx → V)
    (inb : ∀ a, (![r, c] : Fin 2 → ℕ) a + (![h, w] : Fin 2 → ℕ) a ≤ (![R, C] : Fin 2 → ℕ) a) (i : Fin h) (j : Fin w) :
    VecWindow.window (s := ⟨2, ![R, C]⟩) x ![r, c] ![h, w] inb (ix2 i j)
      = x (ix2 ⟨r + i.val, lt_of_lt_of_le (Nat.add_lt_add_left i.isLt r) (inb 0)⟩ ⟨c + j.val, lt_of_lt_of_le (Nat.add_lt_add_left j.isLt c) (inb 1)⟩) := by
  unfold VecWindow.window
  congr 1
  funext a
  apply Fin.ext
  match a with
  | ⟨0, _⟩ => simp [Rect.emb, Rect.unit, ix2]
  | ⟨1, _⟩ => simp [Rect.emb, Rect.unit, ix2]

/-- On the entries `P` a matrix is what it should be. -/
def Agree (x : (⟨2, ![R, C]⟩ : Shape).Idx → V) (G : Fin R → Fin C → V) (P : ℕ → ℕ → Prop) : Prop :=
  ∀ (i : Fin R) (j : Fin C), P i.val j.val → x (ix2 i j) = G i j

/-- A window stored right makes its own entries right and leaves the others. -/
theorem Agree.put {x : (⟨2, ![R, C]⟩ : Shape).Idx → V} {G : Fin R → Fin C → V} {P : ℕ → ℕ → Prop} (hx : Agree x G P)
    (P' : ℕ → ℕ → Prop) (inb : ∀ a, (![r, c] : Fin 2 → ℕ) a + (![h, w] : Fin 2 → ℕ) a ≤ (![R, C] : Fin 2 → ℕ) a)
    (y : (⟨2, ![h, w]⟩ : Shape).Idx → V)
    (hy : ∀ (i : Fin h) (j : Fin w), y (ix2 i j) = G ⟨r + i.val, lt_of_lt_of_le (Nat.add_lt_add_left i.isLt r) (inb 0)⟩ ⟨c + j.val, lt_of_lt_of_le (Nat.add_lt_add_left j.isLt c) (inb 1)⟩)
    (hP : ∀ a b, a < R → b < C → P' a b → P a b ∨ ((r ≤ a ∧ a < r + h) ∧ c ≤ b ∧ b < c + w)) :
    Agree (VecWindow.put (s := ⟨2, ![R, C]⟩) x ![r, c] ![h, w] y) G P' := by
  intro i j hij
  unfold VecWindow.put
  split
  · next hin =>
    have h0 := hin 0
    have h1 := hin 1
    have e0 : (ix2 i j : (⟨2, ![R, C]⟩ : Shape).Idx) 0 = i := rfl
    have e1 : (ix2 i j : (⟨2, ![R, C]⟩ : Shape).Idx) 1 = j := rfl
    simp only [e0, e1, Matrix.cons_val_zero, Matrix.cons_val_one] at h0 h1
    have := hy ⟨i.val - r, by omega⟩ ⟨j.val - c, by omega⟩
    rw [show (Rect.unitLocal (ix2 i j : (⟨2, ![R, C]⟩ : Shape).Idx) hin) = (ix2 (⟨i.val - r, by omega⟩ : Fin h) (⟨j.val - c, by omega⟩ : Fin w) : (⟨2, ![h, w]⟩ : Shape).Idx) from by
      funext a
      apply Fin.ext
      match a with
      | ⟨0, _⟩ => rfl
      | ⟨1, _⟩ => rfl]
    rw [this]
    congr 1 <;> apply Fin.ext <;> simp <;> omega
  · next hout =>
    rcases hP i.val j.val i.isLt j.isLt hij with hP | hP
    · exact hx i j hP
    · refine absurd ?_ hout
      intro a
      match a with
      | ⟨0, _⟩ => exact hP.1
      | ⟨1, _⟩ => exact hP.2

/-- A row stored in an array of one block of rows. -/
theorem put3 {x : (⟨3, ![1, R, C]⟩ : Shape).Idx → V} {G : Fin R → Fin C → V} {P : ℕ → Prop} (hx : ∀ i j, P i.val → x (ix3 0 i j) = G i j)
    (hr : r < R) (y : (⟨3, ![1, 1, C]⟩ : Shape).Idx → V) (hy : ∀ j, y (ix3 0 0 j) = G ⟨r, hr⟩ j) (P' : ℕ → Prop) (hP : ∀ a, P' a → P a ∨ a = r) :
    ∀ i j, P' i.val → VecWindow.put (s := ⟨3, ![1, R, C]⟩) x ![0, r, 0] ![1, 1, C] y (ix3 0 i j) = G i j := by
  intro i j hi
  unfold VecWindow.put
  split
  · next hin =>
    have h1 := hin 1
    have e1 : (ix3 0 i j : (⟨3, ![1, R, C]⟩ : Shape).Idx) 1 = i := rfl
    simp only [e1, Matrix.cons_val_one, Matrix.cons_val_zero] at h1
    have hir : i = ⟨r, hr⟩ := Fin.ext (by show i.val = r; omega)
    rw [show (Rect.unitLocal (ix3 0 i j : (⟨3, ![1, R, C]⟩ : Shape).Idx) hin) = (ix3 0 0 j : (⟨3, ![1, 1, C]⟩ : Shape).Idx) from by
      funext a
      apply Fin.ext
      match a with
      | ⟨0, _⟩ => rfl
      | ⟨1, _⟩ => show i.val - r = 0; omega
      | ⟨2, _⟩ => rfl]
    rw [hy, hir]
  · next hout =>
    rcases hP i.val hi with hP | hP
    · exact hx i j hP
    · refine absurd ?_ hout
      intro a
      match a with
      | ⟨0, _⟩ => exact ⟨Nat.zero_le _, by show 0 < 0 + 1; omega⟩
      | ⟨1, _⟩ => exact ⟨le_of_eq hP.symm, by show i.val < r + 1; omega⟩
      | ⟨2, _⟩ => exact ⟨Nat.zero_le _, by show j.val < 0 + C; omega⟩

end Windows

end Cert.Body
-- ==== Proof.Project.Sem.lean ====
/-
  What the three stages of a grid point compute, as row functions over the extended reals.
-/
module

public import proofs.«01_k».proof.Proof.Project.Reads
public import proofs.«01_k».proof.Proof.Tiles

@[expose] public section

noncomputable section

namespace Cert.ProjectIdeal.Val

open Idealize.ShloMosaic Idealize.ShloMosaic.TcCoe
open Idealize.SL Idealize.SL.RA Idealize.SL.BI Idealize.SL.Sem
open Cert.Body Cert.Math
open Facts₀ Facts

section Targets

/-- The scaled products of a row of codes with the weights. -/
def qkvRow (co : Fin 5376 → EReal) (xs : Fin 128 → EReal) (w : Fin 5376 → Fin 2048 → EReal) (s : Fin 2048 → EReal) (n : Fin 2048) : EReal :=
  (∑ k, co k * w k n) * (xs ⟨n.val % 128, Nat.mod_lt _ (by decide)⟩ * s n)

/-- The 128 entries of a row from `o` on. -/
def part (z : Fin 2048 → EReal) (o : ℕ) (ho : o + 128 ≤ 2048) (l : Fin 128) : EReal := z ⟨o + l.val, by omega⟩

/-- The queries of a row. -/
def qRow (z : Fin 2048 → EReal) (g : Fin 128 → EReal) (c s : Fin 64 → EReal) (n : Fin 1024) : EReal :=
  rope (norm nHead (part z (128 * (n.val / 128)) (by omega)) g) c s ⟨n.val % 128, Nat.mod_lt _ (by decide)⟩

/-- A key head of a row. -/
def kHead (z : Fin 2048 → EReal) (g : Fin 128 → EReal) (c s : Fin 64 → EReal) (h : ℕ) (hh : h < 4) : Fin 128 → EReal :=
  rope (norm nHead (part z (1024 + 128 * h) (by omega)) g) c s

/-- A value head of a row. -/
def vHead (z : Fin 2048 → EReal) (h : ℕ) (hh : h < 4) : Fin 128 → EReal := part z (1536 + 128 * h) (by omega)

/-- The key codes of a row. -/
def kRow (z : Fin 2048 → EReal) (g : Fin 128 → EReal) (c s : Fin 64 → EReal) (n : Fin 512) : EReal :=
  code (kHead z g c s (n.val / 128) (by omega)) ⟨n.val % 128, Nat.mod_lt _ (by decide)⟩

/-- The value codes of a row. -/
def vRow (z : Fin 2048 → EReal) (n : Fin 512) : EReal :=
  code (vHead z (n.val / 128) (by omega)) ⟨n.val % 128, Nat.mod_lt _ (by decide)⟩

/-- The key and value scales of a row: four and four, then nothing. -/
def scRow (z : Fin 2048 → EReal) (g : Fin 128 → EReal) (c s : Fin 64 → EReal) (l : Fin 128) : EReal :=
  if h : l.val < 4 then scale (top (kHead z g c s l.val h))
  else if h : l.val < 8 then scale (top (vHead z (l.val - 4) (by omega)))
  else 0

end Targets

variable [Facts] (U : Type) [URA U] (c : Dev nD) {M : Mem}

local notation "𝔹" => Bufs (Elt Ideal) (Mem.frame M)

/-- Row `i` of what a buffer holds. -/
abbrev row {R C : ℕ} (x : (⟨2, ![R, C]⟩ : Shape).Idx → EReal) (i : Fin R) : Fin C → EReal := fun k => x (ix2 i k)

/-- The buffers other than those of `T` are as they were. -/
def Keep (T : List Bf) (b b' : 𝔹) : Prop := ∀ j, j ∉ T → b' j = b j

theorem Keep.refl (T : List Bf) (b : 𝔹) : Keep T b b := fun _ _ => rfl

theorem Keep.update {T : List Bf} {b b' : 𝔹} (h : Keep T b b') {j : Bf} (hj : j ∈ T) (x) : Keep T b (Function.update b' j x) := by
  intro i hi
  rw [Function.update_of_ne (by rintro rfl; exact hi hj)]
  exact h i hi

section Matmul

/-- What the matmul stage leaves. -/
abbrev qkvOf (b : 𝔹) (i : Fin 256) : Fin 2048 → EReal :=
  qkvRow (row (b .codesR) i) (row (b .xsR) i) (row (b .w)) (row (b .s) 0)

theorem matmulCol_sem (acc : FVec Ideal S256x512 .f32) (n : ℕ) (hn : n < 4) (k : ℕ) (hk : k < 4) (b : 𝔹) :
    ((matmulCol (F := Ideal) U c M acc n hn k hk).sem b).2
      = Function.update b .qkvW (VecWindow.put (s := S256x2048) (b .qkvW) ![0, 512 * n + 128 * k] ![256, 128]
        (shapeCast S256x128 (mulf (F := Ideal) (extractStridedSlice S256x128 ![0, 128 * k] acc ⟨rfl, inb2 (by omega) (by omega)⟩)
          (mulf (VecWindow.window (s := S256x128) (b .xsR) ![0, 0] ![256, 128] (inb2 (by omega) (by omega)))
            (broadcastTo S256x128 (VecWindow.window (s := S1x2048) (b .s) ![0, 512 * n + 128 * k] ![1, 128] (inb2 (by omega) (by omega))) broadcasts_S1x128_S256x128))) shapeCasts_S256x128_S256x128)) := rfl

/-- Of a block of columns: right after it, right before it, and nothing else touched. -/
def MatInv (b b' : 𝔹) (cols : ℕ) : Prop :=
  Keep [.qkvW] b b' ∧ Agree (b' .qkvW) (qkvOf b) fun _ n => n < cols

theorem matmulCols_spec (acc : FVec Ideal S256x512 .f32) (b b' : 𝔹) (n : ℕ) (hn : n < 4) (h : MatInv b b' (512 * n))
    (hacc : ∀ i (j : Fin 512), acc (ix2 i j) = (∑ k, row (b .codesR) i k * row (b .w) k ⟨512 * n + j.val, by omega⟩ : EReal)) :
    MatInv b ((Act.loop 4 (fun k hk (_ : PUnit) => matmulCol (F := Ideal) U c M acc n hn k hk) ⟨⟩).sem b').2 (512 * (n + 1)) := by
  refine loop_spec (U := U) (fun k hk (_ : PUnit) => matmulCol (F := Ideal) U c M acc n hn k hk)
    (fun k _ b'' => MatInv b b'' (512 * n + 128 * k)) ?_ ⟨⟩ b' h
  rintro k hk - b'' ⟨h1, h2⟩
  rw [matmulCol_sem]
  refine ⟨h1.update (by simp) _, ?_⟩
  · rw [Function.update_self]
    refine h2.put _ (inb2 (by omega) (by omega)) _ (fun i l => ?_) (fun x y hx hy hP => by omega)
    refine (matmulTile_apply _ _ _ k hk _ i l).trans ?_
    rw [window2, window2, h1 _ (by simp), h1 _ (by simp), hacc]
    unfold qkvOf qkvRow row
    congr 3
    · funext k
      congr 3 <;> apply Fin.ext <;> simp only <;> omega
    · congr 1 <;> apply Fin.ext <;> simp only <;> omega

theorem matmulStage_spec (b : 𝔹) :
    Keep [.qkvW] b ((matmulStage (F := Ideal) U c M).sem b).2
      ∧ Agree (((matmulStage (F := Ideal) U c M).sem b).2 .qkvW) (qkvOf b) fun _ _ => True := by
  have h := loop_spec (U := U) (fun n hn (_ : PUnit) => matmulQuarter (F := Ideal) U c M n hn)
    (fun n _ b' => MatInv b b' (512 * n)) ?_ ⟨⟩ b ⟨fun _ _ => rfl, fun _ _ h => absurd h (by simp)⟩
  · exact ⟨h.1, fun i j _ => h.2 i j (by omega)⟩
  · rintro n hn - b' h
    refine matmulCols_spec U c (matmul (F := Ideal) (φ₁ := .fp8e4m3) (φ₂ := .fp8e4m3) dot_S256x5376_S5376x512_S256x512_1_0_0_1_n_n none
      (VecWindow.window (s := S256x5376) (b' .codesR) ![0, 0] ![256, 5376] (inb2 (by omega) (by omega)))
      (VecWindow.window (s := S5376x2048) (b' .w) ![0, 512 * n] ![5376, 512] (inb2 (by omega) (by omega)))
      (constant S256x512 .f32 0x00000000#32)) b b' n hn h fun i j => ?_
    rw [products_apply]
    refine Finset.sum_congr rfl fun k _ => ?_
    rw [window2, window2, h.1 _ (by simp), h.1 _ (by simp)]
    unfold row
    congr 3 <;> apply Fin.ext <;> simp

end Matmul

section Quant

/-- A row times the gains, normalised. -/
abbrev normOf (b : 𝔹) (i : Fin 256) : Fin 5376 → EReal := norm nModel (row (b .x) i) (row (b .g) 0)

/-- The codes of a row. -/
abbrev codesOf (b : 𝔹) (i : Fin 256) : Fin 5376 → EReal := code (normOf b i)

/-- The scale of a row. -/
abbrev scaleOf (b : 𝔹) (i : Fin 256) : EReal := scale (top (normOf b i))

/-- The two running tiles of the first pass after `n` tiles of columns. -/
def StatInv (b : 𝔹) (r : ℕ) (hr : r < 8) (n : ℕ) (a : FVec Ideal S32x256 .f32 × FVec Ideal S32x256 .f32) : Prop :=
  (∀ (i : Fin 32) (l : Fin 256), a.1 (ix2 i l)
      = (∑ k ∈ Finset.range n, entry (fun m => row (b .x) ⟨32 * r + i.val, by omega⟩ m * row (b .x) ⟨32 * r + i.val, by omega⟩ m) (256 * k + l.val) : EReal))
  ∧ ∀ (i : Fin 32) (l : Fin 256) (c : EReal), (a.2 (ix2 i l) : EReal) ≤ c ↔ 0 ≤ c ∧ ∀ k < n,
      max (entry (fun m => row (b .x) ⟨32 * r + i.val, by omega⟩ m * row (b .g) 0 m) (256 * k + l.val))
        (-entry (fun m => row (b .x) ⟨32 * r + i.val, by omega⟩ m * row (b .g) 0 m) (256 * k + l.val)) ≤ c

theorem statLoop_spec (b : 𝔹) (r : ℕ) (hr : r < 8) (z : FVec Ideal S32x256 .f32 × FVec Ideal S32x256 .f32) (hz : StatInv b r hr 0 z) :
    StatInv b r hr 21 ((Act.loop 21 (fun k hk a => statTile (F := Ideal) U c M r hr k hk a) z).sem b).1
      ∧ ((Act.loop 21 (fun k hk a => statTile (F := Ideal) U c M r hr k hk a) z).sem b).2 = b := by
  refine loop_spec (U := U) (fun k hk a => statTile (F := Ideal) U c M r hr k hk a) (fun n a b' => StatInv b r hr n a ∧ b' = b) ?_ z b ⟨hz, rfl⟩
  rintro k hk a b' ⟨⟨h1, h2⟩, rfl⟩
  refine ⟨⟨fun i l => ?_, fun i l c => ?_⟩, rfl⟩
  · refine (statSq_apply a.1 (VecWindow.window (s := S256x5376) (b' .x) ![32 * r, 256 * k] ![32, 256] (inb2 (by omega) (by omega))) i l).trans ?_
    rw [Finset.sum_range_succ, h1, entry_lt _ (by omega), window2]
  · refine (Iff.of_eq (congrArg (· ≤ c) (statMax_apply a.2 (VecWindow.window (s := S256x5376) (b' .x) ![32 * r, 256 * k] ![32, 256] (inb2 (by omega) (by omega)))
      (VecWindow.window (s := S1x5376) (b' .g) ![0, 256 * k] ![1, 256] (inb2 (by omega) (by omega))) i l))).trans ?_
    rw [max_le_iff, h2, window2, window2, and_assoc]
    refine and_congr_right fun _ => ⟨fun h j hj => ?_, fun h => ⟨fun j hj => h j (by omega), ?_⟩⟩
    · rcases Nat.lt_succ_iff_lt_or_eq.1 hj with hj | rfl
      · exact h.1 j hj
      · rw [entry_lt _ (by omega)]
        exact h.2
    · have := h k (by omega)
      rw [entry_lt _ (by omega)] at this
      exact this

/-- Row groups quantised so far: their codes kept and written, their scales kept, and nothing else touched. -/
def QuantInv (b b' : 𝔹) (P : ℕ → ℕ → Prop) (n : ℕ) : Prop :=
  Keep [.codesW, .codesO, .xsW, .scalesO] b b' ∧ b' .scalesO = b .scalesO
    ∧ Agree (b' .codesW) (codesOf b) P ∧ Agree (b' .codesO) (codesOf b) P ∧ Agree (b' .xsW) (fun i (_ : Fin 128) => scaleOf b i) fun i _ => i < n

theorem quantTiles_spec (coef : FVec Ideal S32x1 .f32) (r : ℕ) (hr : r < 8) (b b' : 𝔹)
    (hc : ∀ i : Fin 32, coef (ix2 i 0)
      = Ideal.div (Ideal.div 1 (root nModel (row (b .x) ⟨32 * r + i.val, by omega⟩))) (scaleOf b ⟨32 * r + i.val, by omega⟩))
    (h : QuantInv b b' (fun i _ => i < 32 * r) (32 * (r + 1))) :
    QuantInv b ((Act.loop 21 (fun k hk (_ : PUnit) => quantTile (F := Ideal) U c M coef r hr k hk) ⟨⟩).sem b').2 (fun i _ => i < 32 * (r + 1)) (32 * (r + 1)) := by
  have := loop_spec (U := U) (fun k hk (_ : PUnit) => quantTile (F := Ideal) U c M coef r hr k hk)
    (fun k _ b'' => QuantInv b b'' (fun i l => i < 32 * r ∨ (i < 32 * (r + 1) ∧ l < 256 * k)) (32 * (r + 1))) ?_ ⟨⟩ b'
    ⟨h.1, h.2.1, fun i l hP => h.2.2.1 i l (by omega), fun i l hP => h.2.2.2.1 i l (by omega), h.2.2.2.2⟩
  · exact ⟨this.1, this.2.1, fun i l hP => this.2.2.1 i l (by have := l.isLt; omega), fun i l hP => this.2.2.2.1 i l (by have := l.isLt; omega), this.2.2.2.2⟩
  · rintro k hk - b'' ⟨h1, h2, h3, h4, h5⟩
    have hcode : ∀ (i : Fin 32) (l : Fin 256),
        codeTile (F := Ideal) coef (VecWindow.window (s := S256x5376) (b'' .x) ![32 * r, 256 * k] ![32, 256] (inb2 (by omega) (by omega)))
          (VecWindow.window (s := S1x5376) (b'' .g) ![0, 256 * k] ![1, 256] (inb2 (by omega) (by omega))) (ix2 i l)
          = codesOf b ⟨32 * r + i.val, by omega⟩ ⟨256 * k + l.val, by omega⟩ := by
      intro i l
      rw [codeTile_apply, window2, window2, hc, h1 _ (by simp), h1 _ (by simp)]
      exact code_norm nModel_pos (row (b .x) ⟨32 * r + i.val, by omega⟩) (row (b .g) 0) ⟨256 * k + l.val, by omega⟩
    refine ⟨(h1.update (by simp) _).update (by simp) _, ?_, ?_, ?_, ?_⟩
    · exact h2
    · refine h3.put _ (inb2 (by omega) (by omega)) _ (fun i l => ?_) (fun x y hx hy hP => by omega)
      refine Eq.trans ?_ (hcode i l)
      pointwise []
      rfl
    · exact h4.put _ (inb2 (by omega) (by omega)) _ (fun i l => hcode i l) (fun x y hx hy hP => by omega)
    · exact h5

theorem quantRows_spec (r : ℕ) (hr : r < 8) (b b' : 𝔹) (h : QuantInv b b' (fun i _ => i < 32 * r) (32 * r)) :
    QuantInv b ((quantRows (F := Ideal) U c M r hr).sem b').2 (fun i _ => i < 32 * (r + 1)) (32 * (r + 1)) := by
  obtain ⟨hs, hb⟩ := statLoop_spec U c b' r hr ((broadcast S32x256 (Scalar.ofBits .f32 0x00000000#32) : FVec Ideal S32x256 .f32), (broadcast S32x256 (Scalar.ofBits .f32 0x00000000#32) : FVec Ideal S32x256 .f32))
    ⟨fun i l => zeros_apply i l, fun i l c => by
      refine (Iff.of_eq (congrArg (· ≤ c) (zeros_apply i l))).trans ⟨fun h => ⟨h, fun k hk => absurd hk (by omega)⟩, fun h => h.1⟩⟩
  generalize hst : (Act.loop 21 (fun k hk a => statTile (F := Ideal) U c M r hr k hk a) ((broadcast S32x256 (Scalar.ofBits .f32 0x00000000#32) : FVec Ideal S32x256 .f32), (broadcast S32x256 (Scalar.ofBits .f32 0x00000000#32) : FVec Ideal S32x256 .f32))).sem b' = st at hs hb
  have e : ((quantRows (F := Ideal) U c M r hr).sem b').2
      = ((Act.loop 21 (fun k hk (_ : PUnit) => quantTile (F := Ideal) U c M (divf (invRow st.1.1) (scaleRow st.1.1 st.1.2)) r hr k hk) ⟨⟩).sem
        (Function.update st.2 .xsW (VecWindow.put (s := S256x128) (st.2 .xsW) ![32 * r, 0] ![32, 128]
          (shapeCast S32x128 (broadcastTo S32x128 (shapeCast S32x1 (scaleRow st.1.1 st.1.2) shapeCasts_S32x1_S32x1) broadcasts_S32x1_S32x128) shapeCasts_S32x128_S32x128)))).2 := by
    rw [← hst]
    rfl
  obtain ⟨⟨a1, a2⟩, b1⟩ := st
  obtain rfl : b1 = b' := hb
  obtain ⟨h1, h2, h3, h4, h5⟩ := h
  have hx : b1 .x = b .x := h1 _ (by simp)
  have hg : b1 .g = b .g := h1 _ (by simp)
  have hsum : ∀ i : Fin 32, Ideal.sqrt (Ideal.div (∑ l : Fin 256, a1 (ix2 i l)) nModel + eps) = root nModel (row (b .x) ⟨32 * r + i.val, by omega⟩) := by
    intro i
    have := sum_lanes 21 256 (by norm_num) fun m => row (b1 .x) ⟨32 * r + i.val, by omega⟩ m * row (b1 .x) ⟨32 * r + i.val, by omega⟩ m
    rw [← hx]
    exact congrArg (fun z => Ideal.sqrt (Ideal.div z nModel + eps)) ((Finset.sum_congr rfl fun l _ => hs.1 i l).trans this)
  have hmax : ∀ i : Fin 32, Finset.univ.fold max bot (fun l : Fin 256 => a2 (ix2 i l)) * Ideal.div 1 (root nModel (row (b .x) ⟨32 * r + i.val, by omega⟩))
      = top (normOf b ⟨32 * r + i.val, by omega⟩) := by
    intro i
    rw [normOf, top_norm (by decide) nModel_pos, ← hx, ← hg]
    exact congrArg (· * _) (max_lanes 21 256 (by decide) (by decide) (by norm_num)
      (fun m => row (b1 .x) ⟨32 * r + i.val, by omega⟩ m * row (b1 .g) 0 m) _ fun l c => hs.2 i l c)
  have hscale : ∀ i : Fin 32, scaleRow (F := Ideal) a1 a2 (ix2 i 0) = scaleOf b ⟨32 * r + i.val, by omega⟩ := by
    intro i
    rw [scaleRow_apply, hsum, hmax]
  rw [e]
  refine quantTiles_spec U c _ r hr b _ (fun i => ?_) ⟨h1.update (by simp) _, h2, h3, h4, ?_⟩
  · refine Eq.trans ?_ (congrArg₂ Ideal.div (congrArg (Ideal.div 1) (hsum i)) (hscale i))
    rw [← invRow_apply]
    pointwise []
  · exact h5.put _ (inb2 (by omega) (by omega)) _ (fun i l => (spread_apply _ i l).trans (hscale i)) (fun x y hx hy hP => by omega)

theorem quantStage_spec (b : 𝔹) :
    Keep [.codesW, .codesO, .xsW, .scalesO] b ((quantStage (F := Ideal) U c M).sem b).2
      ∧ Agree (((quantStage (F := Ideal) U c M).sem b).2 .codesW) (codesOf b) (fun _ _ => True)
      ∧ Agree (((quantStage (F := Ideal) U c M).sem b).2 .codesO) (codesOf b) (fun _ _ => True)
      ∧ Agree (((quantStage (F := Ideal) U c M).sem b).2 .xsW) (fun i (_ : Fin 128) => scaleOf b i) (fun _ _ => True)
      ∧ ∀ (i : Fin 2) (l : Fin 128), (((quantStage (F := Ideal) U c M).sem b).2 .scalesO) (ix3 0 i l) = scaleOf b ⟨128 * i.val + l.val, by omega⟩ := by
  have h := loop_spec (U := U) (fun r hr (_ : PUnit) => quantRows (F := Ideal) U c M r hr)
    (fun r _ b' => QuantInv b b' (fun i _ => i < 32 * r) (32 * r)) (fun r hr _ b' h => quantRows_spec U c r hr b b' h) ⟨⟩ b
    ⟨Keep.refl _ b, rfl, fun _ _ h => absurd h (by omega), fun _ _ h => absurd h (by omega), fun _ _ h => absurd h (by omega)⟩
  generalize hb1 : ((Act.loop 8 (fun r hr (_ : PUnit) => quantRows (F := Ideal) U c M r hr) ⟨⟩).sem b).2 = b1 at h
  have e : ((quantStage (F := Ideal) U c M).sem b).2 = ((Act.loop 2 (fun r hr (_ : PUnit) => scaleOut (F := Ideal) U c M r hr) ⟨⟩).sem b1).2 := by
    rw [← hb1]
    rfl
  rw [e]
  obtain ⟨h1, h2, h3, h4, h5⟩ := h
  have := loop_spec (U := U) (fun r hr (_ : PUnit) => scaleOut (F := Ideal) U c M r hr)
    (fun r _ b' => Keep [.scalesO] b1 b' ∧ ∀ (i : Fin 2) (l : Fin 128), i.val < r → (b' .scalesO) (ix3 0 i l) = scaleOf b ⟨128 * i.val + l.val, by omega⟩) ?_ ⟨⟩ b1
    ⟨Keep.refl _ b1, fun _ _ h => absurd h (by omega)⟩
  · obtain ⟨k1, k2⟩ := this
    refine ⟨fun j hj => (k1 j ?_).trans (h1 j hj), ?_, ?_, ?_, fun i l => k2 i l i.isLt⟩
    · simp only [List.mem_cons, not_or, List.not_mem_nil, not_false_eq_true, and_true] at hj ⊢
      exact hj.2.2.2
    · rw [k1 _ (by simp)]
      exact fun i l _ => h3 i l (by have := i.isLt; omega)
    · rw [k1 _ (by simp)]
      exact fun i l _ => h4 i l (by have := i.isLt; omega)
    · rw [k1 _ (by simp)]
      exact fun i l _ => h5 i l (by have := i.isLt; omega)
  · rintro r hr - b' ⟨k1, k2⟩
    refine ⟨k1.update (by simp) _, ?_⟩
    refine put3 (R := 2) (C := 128) (P := fun i => i < r) (G := fun i l => scaleOf b ⟨128 * i.val + l.val, by omega⟩) (fun i l h => k2 i l h) hr _ (fun l => ?_) (fun i => i < r + 1) (fun a ha => by omega)
    refine (scaleLane_apply (VecWindow.window (s := S256x128) (b' .xsW) ![128 * r, 0] ![128, 128] (inb2 (by omega) (by omega))) l).trans ?_
    rw [window2, k1 _ (by simp), h5 _ _ (by simp only; omega)]

end Quant

end Cert.ProjectIdeal.Val
-- ==== Proof.Project.Heads.lean ====
/-
  What the head stage of a grid point computes, as row functions over the extended reals.
-/
module

public import proofs.«01_k».proof.Proof.Project.Sem

@[expose] public section

noncomputable section

namespace Cert.ProjectIdeal.Val

open Idealize.ShloMosaic Idealize.ShloMosaic.TcCoe
open Idealize.SL Idealize.SL.RA Idealize.SL.BI Idealize.SL.Sem
open Cert.Body Cert.Math
open Facts₀ Facts

theorem tile_div {h l : ℕ} (hl : l < 128) : (128 * h + l) / 128 = h := by omega
theorem tile_mod {h l : ℕ} (hl : l < 128) : (128 * h + l) % 128 = l := by omega

theorem part_congr (z : Fin 2048 → EReal) {o o' : ℕ} (e : o = o') (ho ho') : part z o ho = part z o' ho' := by
  subst e
  rfl

theorem kHead_congr (z : Fin 2048 → EReal) (g : Fin 128 → EReal) (c s : Fin 64 → EReal) {h h' : ℕ} (e : h = h') (hh hh') :
    kHead z g c s h hh = kHead z g c s h' hh' := by
  subst e
  rfl

theorem vHead_congr (z : Fin 2048 → EReal) {h h' : ℕ} (e : h = h') (hh hh') : vHead z h hh = vHead z h' hh' := by
  subst e
  rfl

theorem qRow_at (z : Fin 2048 → EReal) (g : Fin 128 → EReal) (c s : Fin 64 → EReal) (h : ℕ) (hh : h < 8) (l : Fin 128) :
    qRow z g c s ⟨128 * h + l.val, by omega⟩ = rope (norm nHead (part z (128 * h) (by omega)) g) c s l :=
  congrArg₂ (fun p l => rope (norm nHead p g) c s l) (part_congr z (congrArg (128 * ·) (tile_div l.isLt)) _ _) (Fin.ext (tile_mod l.isLt))

theorem kRow_at (z : Fin 2048 → EReal) (g : Fin 128 → EReal) (c s : Fin 64 → EReal) (h : ℕ) (hh : h < 4) (l : Fin 128) :
    kRow z g c s ⟨128 * h + l.val, by omega⟩ = code (kHead z g c s h hh) l :=
  congrArg₂ (fun p l => code p l) (kHead_congr z g c s (tile_div l.isLt) _ _) (Fin.ext (tile_mod l.isLt))

theorem vRow_at (z : Fin 2048 → EReal) (h : ℕ) (hh : h < 4) (l : Fin 128) :
    vRow z ⟨128 * h + l.val, by omega⟩ = code (vHead z h hh) l :=
  congrArg₂ (fun p l => code p l) (vHead_congr z (tile_div l.isLt) _ _) (Fin.ext (tile_mod l.isLt))

variable [Facts] (U : Type) [URA U] (c : Dev nD) {M : Mem}

local notation "𝔹" => Bufs (Elt Ideal) (Mem.frame M)

abbrev qOf (b : 𝔹) (i : Fin 256) : Fin 1024 → EReal := qRow (row (b .qkvR) i) (row (b .gq) 0) (row (b .cos) i) (row (b .sin) i)
abbrev kOf (b : 𝔹) (i : Fin 256) : Fin 512 → EReal := kRow (row (b .qkvR) i) (row (b .gk) 0) (row (b .cos) i) (row (b .sin) i)
abbrev vOf (b : 𝔹) (i : Fin 256) : Fin 512 → EReal := vRow (row (b .qkvR) i)
abbrev scOf (b : 𝔹) (i : Fin 256) : Fin 128 → EReal := scRow (row (b .qkvR) i) (row (b .gk) 0) (row (b .cos) i) (row (b .sin) i)

/-- The rows before the group `r`, and in the group the columns before `n`. -/
abbrev Upto (r n : ℕ) (i j : ℕ) : Prop := i < 64 * r ∨ (i < 64 * (r + 1) ∧ j < n)

section

/-- The cosines and the sines of a row group. -/
abbrev cosW (b : 𝔹) (r : ℕ) (hr : r < 4) : Vec Ideal S64x64 .f32 := VecWindow.window (s := S256x64) (b .cos) ![64 * r, 0] ![64, 64] (inb2 (by omega) (by omega))
abbrev sinW (b : 𝔹) (r : ℕ) (hr : r < 4) : Vec Ideal S64x64 .f32 := VecWindow.window (s := S256x64) (b .sin) ![64 * r, 0] ![64, 64] (inb2 (by omega) (by omega))

/-- The lanes of scales before `n` are right, and the others zero. -/
def AuxInv (b : 𝔹) (r : ℕ) (hr : r < 4) (n : ℕ) (aux : FVec Ideal S64x128 .f32) : Prop :=
  ∀ (i : Fin 64) (l : Fin 128), aux (ix2 i l) = (if l.val < n then scOf b ⟨64 * r + i.val, by omega⟩ l else 0 : EReal)

/-- A head of a row group rotated. -/
theorem rotated_apply (b : 𝔹) (r : ℕ) (hr : r < 4) (o : ℕ) (ho : o + 128 ≤ 2048) (g : (⟨2, ![1, 128]⟩ : Shape).Idx → EReal) (i : Fin 64) (l : Fin 128) :
    ropeTile (F := Ideal) (normTile (VecWindow.window (s := S256x2048) (b .qkvR) ![64 * r, o] ![64, 128] (inb2 (by omega) (by omega)))
        (VecWindow.window (s := S1x128) g ![0, 0] ![1, 128] (inb2 (by omega) (by omega)))) (cosTile (cosW b r hr)) (sinTile (sinW b r hr)) (ix2 i l)
      = rope (norm nHead (part (row (b .qkvR) ⟨64 * r + i.val, by omega⟩) o ho) (row g 0)) (row (b .cos) ⟨64 * r + i.val, by omega⟩) (row (b .sin) ⟨64 * r + i.val, by omega⟩) l := by
  rw [head_apply]
  have e1 : (fun l : Fin 128 => VecWindow.window (s := S256x2048) (b .qkvR) ![64 * r, o] ![64, 128] (inb2 (by omega) (by omega)) (ix2 i l))
      = part (row (b .qkvR) ⟨64 * r + i.val, by omega⟩) o ho := funext fun l => window2 _ _ _ _
  have e2 : (fun l : Fin 128 => VecWindow.window (s := S1x128) g ![0, 0] ![1, 128] (inb2 (by omega) (by omega)) (ix2 (0 : Fin 1) l)) = row g 0 :=
    funext fun l => (window2 _ _ _ _).trans (congrArg g (by congr 1; apply Fin.ext; simp))
  have e3 : (fun l : Fin 64 => cosW b r hr (ix2 i l)) = row (b .cos) ⟨64 * r + i.val, by omega⟩ :=
    funext fun l => (window2 _ _ _ _).trans (congrArg (b .cos) (by congr 1; apply Fin.ext; simp))
  have e4 : (fun l : Fin 64 => sinW b r hr (ix2 i l)) = row (b .sin) ⟨64 * r + i.val, by omega⟩ :=
    funext fun l => (window2 _ _ _ _).trans (congrArg (b .sin) (by congr 1; apply Fin.ext; simp))
  rw [e1, e2, e3, e4]

theorem AuxInv.next (b : 𝔹) (r : ℕ) (hr : r < 4) {n : ℕ} (hn : n < 8) {aux : FVec Ideal S64x128 .f32} (h : AuxInv b r hr n aux) (t : FVec Ideal S64x128 .f32)
    (ht : ∀ i : Fin 64, scale (top fun l => t (ix2 i l)) = scOf b ⟨64 * r + i.val, by omega⟩ ⟨n, by omega⟩) :
    AuxInv b r hr (n + 1) (laneTile (F := Ideal) (BitVec.ofNat 32 n) t aux) := by
  intro i l
  rw [laneTile_apply _ _ _ hn, ht, h]
  by_cases e : l.val = n
  · rw [if_pos e, if_pos (by omega)]
    congr 1
    exact Fin.ext e.symm
  · rw [if_neg e]
    by_cases e' : l.val < n
    · rw [if_pos e', if_pos (by omega)]
    · rw [if_neg e', if_neg (by omega)]

theorem headQs_spec (b : 𝔹) (r : ℕ) (hr : r < 4) (b' : 𝔹) (hb : Keep [.q, .k, .v, .sc] b b') (hq : Agree (b' .q) (qOf b) fun i _ => i < 64 * r) :
    Keep [.q] b' ((Act.loop 8 (fun h hh (_ : PUnit) => headQ (F := Ideal) U c M (cosTile (cosW b r hr)) (sinTile (sinW b r hr)) r hr h hh) ⟨⟩).sem b').2
      ∧ Agree (((Act.loop 8 (fun h hh (_ : PUnit) => headQ (F := Ideal) U c M (cosTile (cosW b r hr)) (sinTile (sinW b r hr)) r hr h hh) ⟨⟩).sem b').2 .q) (qOf b)
        fun i _ => i < 64 * (r + 1) := by
  have := loop_spec (U := U) (fun h hh (_ : PUnit) => headQ (F := Ideal) U c M (cosTile (cosW b r hr)) (sinTile (sinW b r hr)) r hr h hh)
    (fun h _ b'' => Keep [.q] b' b'' ∧ Agree (b'' .q) (qOf b) (Upto r (128 * h))) ?_ ⟨⟩ b' ⟨Keep.refl _ b', fun i l hP => hq i l (by unfold Upto at hP; omega)⟩
  · exact ⟨this.1, fun i l hP => this.2 i l (by have := l.isLt; unfold Upto; omega)⟩
  · rintro h hh - b'' ⟨h1, h2⟩
    refine ⟨h1.update (by simp) _, ?_⟩
    refine h2.put (Upto r (128 * (h + 1))) (inb2 (by omega) (by omega)) _ (fun i l => ?_) (fun x y hx hy hP => by unfold Upto at *; omega)
    rw [qOf, qRow_at _ _ _ _ h hh, ← rotated_apply b r hr (128 * h) (by omega) (b .gq) i l]
    have e1 : b'' .qkvR = b .qkvR := (h1 _ (by simp)).trans (hb _ (by simp))
    have e2 : b'' .gq = b .gq := (h1 _ (by simp)).trans (hb _ (by simp))
    rw [← e1, ← e2]
    rfl

theorem headKs_spec (b : 𝔹) (r : ℕ) (hr : r < 4) (b' : 𝔹) (hb : Keep [.q, .k, .v, .sc] b b') (hq : Agree (b' .k) (kOf b) fun i _ => i < 64 * r)
    (aux : FVec Ideal S64x128 .f32) (ha : AuxInv b r hr 0 aux) :
    Keep [.k] b' ((Act.loop 4 (fun h hh aux => headK (F := Ideal) U c M (cosTile (cosW b r hr)) (sinTile (sinW b r hr)) r hr h hh aux) aux).sem b').2
      ∧ Agree (((Act.loop 4 (fun h hh aux => headK (F := Ideal) U c M (cosTile (cosW b r hr)) (sinTile (sinW b r hr)) r hr h hh aux) aux).sem b').2 .k) (kOf b)
        (fun i _ => i < 64 * (r + 1))
      ∧ AuxInv b r hr 4 ((Act.loop 4 (fun h hh aux => headK (F := Ideal) U c M (cosTile (cosW b r hr)) (sinTile (sinW b r hr)) r hr h hh aux) aux).sem b').1 := by
  have := loop_spec (U := U) (fun h hh aux => headK (F := Ideal) U c M (cosTile (cosW b r hr)) (sinTile (sinW b r hr)) r hr h hh aux)
    (fun h aux b'' => Keep [.k] b' b'' ∧ Agree (b'' .k) (kOf b) (Upto r (128 * h)) ∧ AuxInv b r hr h aux) ?_ aux b'
    ⟨Keep.refl _ b', fun i l hP => hq i l (by unfold Upto at hP; omega), ha⟩
  · exact ⟨this.1, fun i l hP => this.2.1 i l (by have := l.isLt; unfold Upto; omega), this.2.2⟩
  · rintro h hh aux b'' ⟨h1, h2, h3⟩
    have e1 : b'' .qkvR = b .qkvR := (h1 _ (by simp)).trans (hb _ (by simp))
    have e2 : b'' .gk = b .gk := (h1 _ (by simp)).trans (hb _ (by simp))
    have hrot : ∀ i : Fin 64, (fun l => ropeTile (F := Ideal) (normTile (VecWindow.window (s := S256x2048) (b'' .qkvR) ![64 * r, 1024 + 128 * h] ![64, 128] (inb2 (by omega) (by omega)))
        (VecWindow.window (s := S1x128) (b'' .gk) ![0, 0] ![1, 128] (inb2 (by omega) (by omega)))) (cosTile (cosW b r hr)) (sinTile (sinW b r hr)) (ix2 i l))
        = kHead (row (b .qkvR) ⟨64 * r + i.val, by omega⟩) (row (b .gk) 0) (row (b .cos) ⟨64 * r + i.val, by omega⟩) (row (b .sin) ⟨64 * r + i.val, by omega⟩) h hh := by
      intro i
      rw [e1, e2]
      exact funext fun l => rotated_apply b r hr (1024 + 128 * h) (by omega) (b .gk) i l
    refine ⟨h1.update (by simp) _, ?_, ?_⟩
    · refine h2.put (Upto r (128 * (h + 1))) (inb2 (by omega) (by omega)) _ (fun i l => ?_) (fun x y hx hy hP => by unfold Upto at *; omega)
      refine (headCode_apply _ i l).trans ?_
      rw [kOf, kRow_at _ _ _ _ h hh]
      exact congrArg (fun v => code v l) (hrot i)
    · refine h3.next b r hr (by omega) _ fun i => ?_
      rw [scOf, scRow, dif_pos hh]
      exact congrArg (fun v => scale (top v)) (hrot i)

theorem headVs_spec (b : 𝔹) (r : ℕ) (hr : r < 4) (b' : 𝔹) (hb : Keep [.q, .k, .v, .sc] b b') (hq : Agree (b' .v) (vOf b) fun i _ => i < 64 * r)
    (aux : FVec Ideal S64x128 .f32) (ha : AuxInv b r hr 4 aux) :
    Keep [.v] b' ((Act.loop 4 (fun h hh aux => headV (F := Ideal) U c M r hr h hh aux) aux).sem b').2
      ∧ Agree (((Act.loop 4 (fun h hh aux => headV (F := Ideal) U c M r hr h hh aux) aux).sem b').2 .v) (vOf b) (fun i _ => i < 64 * (r + 1))
      ∧ AuxInv b r hr 8 ((Act.loop 4 (fun h hh aux => headV (F := Ideal) U c M r hr h hh aux) aux).sem b').1 := by
  have := loop_spec (U := U) (fun h hh aux => headV (F := Ideal) U c M r hr h hh aux)
    (fun h aux b'' => Keep [.v] b' b'' ∧ Agree (b'' .v) (vOf b) (Upto r (128 * h)) ∧ AuxInv b r hr (4 + h) aux) ?_ aux b'
    ⟨Keep.refl _ b', fun i l hP => hq i l (by unfold Upto at hP; omega), ha⟩
  · exact ⟨this.1, fun i l hP => this.2.1 i l (by have := l.isLt; unfold Upto; omega), this.2.2⟩
  · rintro h hh aux b'' ⟨h1, h2, h3⟩
    have e1 : b'' .qkvR = b .qkvR := (h1 _ (by simp)).trans (hb _ (by simp))
    have hv : ∀ i : Fin 64, (fun l : Fin 128 => VecWindow.window (s := S256x2048) (b'' .qkvR) ![64 * r, 1536 + 128 * h] ![64, 128] (inb2 (by omega) (by omega)) (ix2 i l))
        = vHead (row (b .qkvR) ⟨64 * r + i.val, by omega⟩) h hh := by
      intro i
      rw [e1]
      exact funext fun l => window2 _ _ _ _
    refine ⟨h1.update (by simp) _, ?_, ?_⟩
    · refine h2.put (Upto r (128 * (h + 1))) (inb2 (by omega) (by omega)) _ (fun i l => ?_) (fun x y hx hy hP => by unfold Upto at *; omega)
      refine (headCode_apply _ i l).trans ?_
      rw [vOf, vRow_at _ h hh]
      exact congrArg (fun v => code v l) (hv i)
    · refine h3.next b r hr (by omega) _ fun i => ?_
      rw [scOf, scRow, dif_neg (by simp), dif_pos (by simp only; omega)]
      exact congrArg (fun v => scale (top v)) ((hv i).trans (vHead_congr _ (by simp) _ _))

end

/-- Row groups whose heads are done. -/
def HeadInv (b b' : 𝔹) (n : ℕ) : Prop :=
  Keep [.q, .k, .v, .sc] b b' ∧ Agree (b' .q) (qOf b) (fun i _ => i < n) ∧ Agree (b' .k) (kOf b) (fun i _ => i < n)
    ∧ Agree (b' .v) (vOf b) (fun i _ => i < n) ∧ Agree (b' .sc) (scOf b) (fun i _ => i < n)

theorem Keep.trans {T T' : List Bf} {b b' b'' : 𝔹} (h : Keep T b b') (h' : Keep T' b' b'') (hT : ∀ j, j ∈ T' → j ∈ T) : Keep T b b'' :=
  fun j hj => (h' j fun e => hj (hT j e)).trans (h j hj)

/-- The three loops of a row group. -/
abbrev loopQ (cs sn : Vec Ideal S64x64 .f32) (r : ℕ) (hr : r < 4) : Act (nD := nD) (τ := τ) (Val := Elt Ideal) U (defs₀ (F := Ideal)) c (Mem.frame M) PUnit :=
  Act.loop 8 (fun h hh _ => headQ U c M (cosTile cs) (sinTile sn) r hr h hh) ⟨⟩
abbrev loopK (cs sn : Vec Ideal S64x64 .f32) (r : ℕ) (hr : r < 4) (aux : FVec Ideal S64x128 .f32) :
    Act (nD := nD) (τ := τ) (Val := Elt Ideal) U (defs₀ (F := Ideal)) c (Mem.frame M) (FVec Ideal S64x128 .f32) :=
  Act.loop 4 (fun h hh aux => headK U c M (cosTile cs) (sinTile sn) r hr h hh aux) aux
abbrev loopV (r : ℕ) (hr : r < 4) (aux : FVec Ideal S64x128 .f32) :
    Act (nD := nD) (τ := τ) (Val := Elt Ideal) U (defs₀ (F := Ideal)) c (Mem.frame M) (FVec Ideal S64x128 .f32) :=
  Act.loop 4 (fun h hh aux => headV U c M r hr h hh aux) aux

theorem ld_sem (j : Bf) (off size : Fin j.sh.rank → ℕ) (hp inb) (b : 𝔹) :
    (ld (F := Ideal) U c M j off size hp inb).sem b = (VecWindow.window (b j) off size inb, b) := (rfl)

theorem st_sem (j : Bf) (off size : Fin j.sh.rank → ℕ) (hp inb hb w) (b : 𝔹) :
    (st (F := Ideal) U c M j off size hp inb hb w).sem b = (⟨⟩, Function.update b j (VecWindow.put (b j) off size w)) := (rfl)

/-- No scales yet. -/
abbrev noScales : FVec Ideal S64x128 .f32 := broadcast S64x128 (Scalar.ofBits .f32 0x00000000#32)

theorem headRows_sem (r : ℕ) (hr : r < 4) (b : 𝔹) (b1 : 𝔹) (p2 p3 : FVec Ideal S64x128 .f32 × 𝔹)
    (h1 : ((loopQ U c (M := M) (cosW b r hr) (sinW b r hr) r hr).sem b).2 = b1)
    (h2 : (loopK U c (cosW b r hr) (sinW b r hr) r hr noScales).sem b1 = p2)
    (h3 : (loopV U c r hr p2.1).sem p2.2 = p3) :
    ((headRows (F := Ideal) U c M r hr).sem b).2 = Function.update p3.2 .sc (VecWindow.put (s := S256x128) (p3.2 .sc) ![64 * r, 0] ![64, 128] p3.1) := by
  unfold headRows
  rw [sem_bind, ld_sem, sem_bind, ld_sem, sem_bind]
  subst h1 h2 h3
  rw [sem_bind, sem_bind, sem_bind, ld_sem]
  rfl

theorem headRows_spec (r : ℕ) (hr : r < 4) (b b' : 𝔹) (h : HeadInv b b' (64 * r)) :
    HeadInv b ((headRows (F := Ideal) U c M r hr).sem b').2 (64 * (r + 1)) := by
  obtain ⟨h1, h2, h3, h4, h5⟩ := h
  have ec : cosW b' r hr = cosW b r hr := by
    show VecWindow.window _ _ _ _ = VecWindow.window _ _ _ _
    rw [h1 _ (by simp)]
  have es : sinW b' r hr = sinW b r hr := by
    show VecWindow.window _ _ _ _ = VecWindow.window _ _ _ _
    rw [h1 _ (by simp)]
  obtain ⟨q1, q2⟩ := headQs_spec U c b r hr b' h1 h2
  generalize hb1 : ((loopQ U c (M := M) (cosW b r hr) (sinW b r hr) r hr).sem b').2 = b1 at q1 q2
  have k1 : Keep [.q, .k, .v, .sc] b b1 := h1.trans q1 (by simp)
  obtain ⟨k2, k3, k4⟩ := headKs_spec U c b r hr b1 k1 (by rw [q1 _ (by simp)]; exact h3) noScales (fun i l => by
      rw [if_neg (by omega)]
      pointwise [])
  generalize hb2 : (loopK U c (cosW b r hr) (sinW b r hr) r hr noScales).sem b1 = p2 at k2 k3 k4
  have v1 : Keep [.q, .k, .v, .sc] b p2.2 := k1.trans k2 (by simp)
  obtain ⟨v2, v3, v4⟩ := headVs_spec U c b r hr p2.2 v1 (by rw [k2 _ (by simp), q1 _ (by simp)]; exact h4) p2.1 k4
  generalize hb3 : (loopV U c r hr p2.1).sem p2.2 = p3 at v2 v3 v4
  rw [headRows_sem U c r hr b' b1 p2 p3 (by rw [ec, es]; exact hb1) (by rw [ec, es]; exact hb2) hb3]
  refine ⟨(v1.trans v2 (by simp)).update (by simp) _, ?_, ?_, ?_, ?_⟩
  · have e : p3.2 .q = b1 .q := (v2 .q (by simp)).trans (k2 .q (by simp))
    intro i j hij
    rw [Function.update_of_ne (by decide), e]
    exact q2 i j hij
  · have e : p3.2 .k = p2.2 .k := v2 .k (by simp)
    intro i j hij
    rw [Function.update_of_ne (by decide), e]
    exact k3 i j hij
  · intro i j hij
    rw [Function.update_of_ne (by decide)]
    exact v3 i j hij
  · have e5 : p3.2 .sc = b' .sc := (v2 .sc (by simp)).trans ((k2 .sc (by simp)).trans (q1 .sc (by simp)))
    have h5' : Agree (p3.2 .sc) (scOf b) (fun i _ => i < 64 * r) := by rw [e5]; exact h5
    rw [Function.update_self]
    refine h5'.put _ (inb2 (by omega) (by omega)) _ (fun i l => ?_) (fun x y hx hy hP => by omega)
    rw [v4]
    have el : (⟨0 + l.val, by omega⟩ : Fin 128) = l := Fin.ext (by simp)
    rw [el]
    split
    · rfl
    · next hl => rw [scOf, scRow, dif_neg (by omega), dif_neg (by omega)]

theorem headStage_spec (b : 𝔹) : HeadInv b ((headStage (F := Ideal) U c M).sem b).2 256 :=
  loop_spec (U := U) (fun r hr (_ : PUnit) => headRows (F := Ideal) U c M r hr)
    (fun r _ b' => HeadInv b b' (64 * r)) (fun r hr _ b' h => headRows_spec U c r hr b b' h) ⟨⟩ b
    ⟨Keep.refl _ b, fun _ _ h => absurd h (by omega), fun _ _ h => absurd h (by omega), fun _ _ h => absurd h (by omega), fun _ _ h => absurd h (by omega)⟩

end Cert.ProjectIdeal.Val
-- ==== Proof.Project.Tie.lean ====
/-
  The printed body is the structured one.
-/
module

public import proofs.«01_k».proof.Proof.Project.Body
public import Idealize.ShloMosaic.Lib.Pipeline.Regions

@[expose] public section

noncomputable section

namespace Cert.ProjectIdeal.Val

open Idealize.ShloMosaic Idealize.ShloMosaic.TcCoe
open Idealize.SL Idealize.SL.RA Idealize.SL.BI Idealize.SL.Sem
open Cert.Body
open Facts₀ Facts

variable {F : FTy → Type} [FloatOps F] [Facts] (U : Type) [URA U] (c : Dev nD)

variable (arg1 : Memref sig .tc .vmem S256x5376 .bf16) (harg1 : arg1.IsWhole) (arg2 : Memref sig .tc .vmem S1x5376 .f32) (harg2 : arg2.IsWhole) (arg3 : Memref sig .tc .vmem S5376x2048 .fp8e4m3) (harg3 : arg3.IsWhole) (arg4 : Memref sig .tc .vmem S1x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S1x2x128 .f32) (harg10 : arg10.IsWhole) (arg11 : Memref sig .tc .vmem S256x1024 .bf16) (harg11 : arg11.IsWhole) (arg12 : Memref sig .tc .vmem S256x512 .fp8e4m3) (harg12 : arg12.IsWhole) (arg13 : Memref sig .tc .vmem S256x512 .fp8e4m3) (harg13 : arg13.IsWhole) (arg14 : Memref sig .tc .vmem S256x128 .f32) (harg14 : arg14.IsWhole) (arg15 : Memref sig .tc .vmem S256x5376 .fp8e4m3) (harg15 : arg15.IsWhole) (arg16 : Memref sig .tc .vmem S256x5376 .fp8e4m3) (harg16 : arg16.IsWhole) (arg17 : Memref sig .tc .vmem S256x128 .f32) (harg17 : arg17.IsWhole) (arg18 : Memref sig .tc .vmem S256x128 .f32) (harg18 : arg18.IsWhole) (arg19 : Memref sig .tc .vmem S256x2048 .f32) (harg19 : arg19.IsWhole) (arg20 : Memref sig .tc .vmem S256x2048 .f32) (harg20 : arg20.IsWhole)

/-- The buffers by role at an even point. -/
abbrev evenMem : Mem :=
  { ref := fun | .x => arg1 | .g => arg2 | .w => arg3 | .s => arg4 | .gq => arg5 | .gk => arg6 | .cos => arg7 | .sin => arg8 | .codesO => arg9 | .scalesO => arg10 | .q => arg11 | .k => arg12 | .v => arg13 | .sc => arg14 | .codesW => arg15 | .codesR => arg16 | .xsW => arg17 | .xsR => arg18 | .qkvW => arg20 | .qkvR => arg19,
    whole := fun | .x => harg1 | .g => harg2 | .w => harg3 | .s => harg4 | .gq => harg5 | .gk => harg6 | .cos => harg7 | .sin => harg8 | .codesO => harg9 | .scalesO => harg10 | .q => harg11 | .k => harg12 | .v => harg13 | .sc => harg14 | .codesW => harg15 | .codesR => harg16 | .xsW => harg17 | .xsR => harg18 | .qkvW => harg20 | .qkvR => harg19 }

/-- The buffers by role at an odd point. -/
abbrev oddMem : Mem :=
  { ref := fun | .x => arg1 | .g => arg2 | .w => arg3 | .s => arg4 | .gq => arg5 | .gk => arg6 | .cos => arg7 | .sin => arg8 | .codesO => arg9 | .scalesO => arg10 | .q => arg11 | .k => arg12 | .v => arg13 | .sc => arg14 | .codesW => arg16 | .codesR => arg15 | .xsW => arg18 | .xsR => arg17 | .qkvW => arg19 | .qkvR => arg20,
    whole := fun | .x => harg1 | .g => harg2 | .w => harg3 | .s => harg4 | .gq => harg5 | .gk => harg6 | .cos => harg7 | .sin => harg8 | .codesO => harg9 | .scalesO => harg10 | .q => harg11 | .k => harg12 | .v => harg13 | .sc => harg14 | .codesW => harg16 | .codesR => harg15 | .xsW => harg18 | .xsR => harg17 | .qkvW => harg19 | .qkvR => harg20 }

/-- At the first point the buffers the later stages read are cleared. -/
def zeroStage (M : Mem) : Act (nD := nD) (τ := τ) (Val := Elt F) U (defs₀ (F := F)) c (Mem.frame M) PUnit := do
  let _ ← ld U c M .codesR ![0, 0] S256x5376.size h_S256x5376 (inb2 (by omega) (by omega))
  stp U c M .codesR ![0, 0] S256x5376.size h_S256x5376 (inb2 (by omega) (by omega)) (packed2 _ (by decide) (by decide))
    (shapeCast S256x5376 (broadcast S256x5376 (Scalar.ofBits .fp8e4m3 0x00#8) : FVec F S256x5376 .fp8e4m3) shapeCasts_S256x5376_S256x5376)
  let _ ← ld U c M .xsR ![0, 0] S256x128.size h_S256x128 (inb2 (by omega) (by omega))
  st U c M .xsR ![0, 0] S256x128.size h_S256x128 (inb2 (by omega) (by omega)) rfl
    (shapeCast S256x128 (broadcast S256x128 (Scalar.ofBits .f32 0x00000000#32) : FVec F S256x128 .f32) shapeCasts_S256x128_S256x128)
  let _ ← ld U c M .qkvR ![0, 0] S256x2048.size h_S256x2048 (inb2 (by omega) (by omega))
  st U c M .qkvR ![0, 0] S256x2048.size h_S256x2048 (inb2 (by omega) (by omega)) rfl
    (shapeCast S256x2048 (broadcast S256x2048 (Scalar.ofBits .f32 0x00000000#32) : FVec F S256x2048 .f32) shapeCasts_S256x2048_S256x2048)
  let _ ← ld U c M .qkvW ![0, 0] S256x2048.size h_S256x2048 (inb2 (by omega) (by omega))
  st U c M .qkvW ![0, 0] S256x2048.size h_S256x2048 (inb2 (by omega) (by omega)) rfl
    (shapeCast S256x2048 (broadcast S256x2048 (Scalar.ofBits .f32 0x00000000#32) : FVec F S256x2048 .f32) shapeCasts_S256x2048_S256x2048)

/-- A grid point's three stages. -/
def step (M : Mem) : Act (nD := nD) (τ := τ) (Val := Elt F) U (defs₀ (F := F)) c (Mem.frame M) PUnit := do
  matmulStage U c M
  quantStage U c M
  headStage U c M

/-- The first point's condition. -/
abbrev isFirst (i : grid0.Coords) : Prop :=
  Scalar.cmpi .ne (Scalar.extui (Scalar.cmpi .eq (BitVec.ofNat 32 (i 0).val) 0#32) : BitVec 32) 0#32 = 1#1

/-- The printed body at the first point: the clearing, then the stages. -/
theorem body_first (i : grid0.Coords) (h0 : isFirst i) (h1 : k0_cond2 i = 1#1) (h2 : ¬ k0_cond3 i = 1#1) :
    cc0_project (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
      = (Act.bind (zeroStage (F := F) U c (evenMem arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)) fun _ => step (F := F) U c (evenMem arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)).prog := by
  unfold cc0_project
  simp only [dif_pos h0, dif_pos h1, dif_neg h2]
  chain_rfl

/-- The printed body at a later even point. -/
theorem body_even (i : grid0.Coords) (h0 : ¬ isFirst i) (h1 : k0_cond2 i = 1#1) (h2 : ¬ k0_cond3 i = 1#1) :
    cc0_project (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = (step (F := F) U c (evenMem arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)).prog := by
  unfold cc0_project
  simp only [dif_neg h0, dif_pos h1, dif_neg h2]
  chain_rfl

/-- The printed body at an odd point. -/
theorem body_odd (i : grid0.Coords) (h0 : ¬ isFirst i) (h1 : ¬ k0_cond2 i = 1#1) (h2 : k0_cond3 i = 1#1) :
    cc0_project (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = (step (F := F) U c (oddMem arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)).prog := by
  unfold cc0_project
  simp only [dif_neg h0, dif_neg h1, dif_pos h2]
  chain_rfl

end Cert.ProjectIdeal.Val
-- ==== Proof.Project.Point.lean ====
/-
  What a whole grid point leaves in the twenty buffers.
-/
module

public import proofs.«01_k».proof.Proof.Project.Heads
public import proofs.«01_k».proof.Proof.Project.Tie

@[expose] public section

noncomputable section

namespace Cert.ProjectIdeal.Val

open Idealize.ShloMosaic Idealize.ShloMosaic.TcCoe
open Idealize.SL Idealize.SL.RA Idealize.SL.BI Idealize.SL.Sem
open Cert.Body Cert.Math
open Facts₀ Facts

/-- The matrix of the entries `G`. -/
def mat {R C : ℕ} (G : Fin R → Fin C → EReal) : (⟨2, ![R, C]⟩ : Shape).Idx → EReal := fun z => G (z 0) (z 1)

theorem mat_apply {R C : ℕ} (G : Fin R → Fin C → EReal) (i : Fin R) (j : Fin C) : mat G (ix2 i j) = G i j := rfl

theorem eta2 {R C : ℕ} (z : (⟨2, ![R, C]⟩ : Shape).Idx) : z = ix2 (z 0) (z 1) := by
  funext a
  match a with
  | ⟨0, _⟩ => rfl
  | ⟨1, _⟩ => rfl

theorem eta3 {A B C : ℕ} (z : (⟨3, ![A, B, C]⟩ : Shape).Idx) : z = ix3 (z 0) (z 1) (z 2) := by
  funext a
  match a with
  | ⟨0, _⟩ => rfl
  | ⟨1, _⟩ => rfl
  | ⟨2, _⟩ => rfl

/-- A matrix right everywhere is the matrix of its entries. -/
theorem eq_mat {R C : ℕ} {x : (⟨2, ![R, C]⟩ : Shape).Idx → EReal} {G : Fin R → Fin C → EReal} {P : ℕ → ℕ → Prop}
    (h : Agree x G P) (hP : ∀ i j, i < R → j < C → P i j) : x = mat G := by
  funext z
  rw [eta2 z]
  exact h _ _ (hP _ _ (z 0).isLt (z 1).isLt)

/-- Scales in two rows of 128. -/
def lanes (S : Fin 256 → EReal) : S1x2x128.Idx → EReal := fun z => S ⟨128 * (z 1).val + (z 2).val, by
  have h1 : (z 1).val < 2 := (z 1).isLt
  have h2 : (z 2).val < 128 := (z 2).isLt
  omega⟩

theorem eq_lanes {x : (⟨3, ![1, 2, 128]⟩ : Shape).Idx → EReal} {S : Fin 256 → EReal}
    (h : ∀ (i : Fin 2) (l : Fin 128), x (ix3 0 i l) = S ⟨128 * i.val + l.val, by omega⟩) : x = lanes S := by
  funext z
  have e : z 0 = (0 : Fin 1) := Fin.ext (by have : (z 0).val < 1 := (z 0).isLt; show (z 0).val = 0; omega)
  have hz := eta3 z
  rw [e] at hz
  exact (congrArg x hz).trans (h _ _)

variable [Facts] (U : Type) [URA U] (c : Dev nD) {M : Mem}

local notation "𝔹" => Bufs (Elt Ideal) (Mem.frame M)

/-- What the three stages leave in each buffer. -/
def stepped (b : 𝔹) : 𝔹
  | .codesO => mat (codesOf b) | .codesW => mat (codesOf b)
  | .scalesO => lanes (scaleOf b) | .xsW => mat fun i _ => scaleOf b i
  | .qkvW => mat (qkvOf b)
  | .q => mat (qOf b) | .k => mat (kOf b) | .v => mat (vOf b) | .sc => mat (scOf b)
  | .x => b .x | .g => b .g | .w => b .w | .s => b .s | .gq => b .gq | .gk => b .gk | .cos => b .cos | .sin => b .sin
  | .codesR => b .codesR | .xsR => b .xsR | .qkvR => b .qkvR

/-- What the first point's clearing leaves. -/
def cleared (b : 𝔹) : 𝔹
  | .codesR => mat fun _ _ => 0 | .xsR => mat fun _ _ => 0 | .qkvR => mat fun _ _ => 0 | .qkvW => mat fun _ _ => 0
  | .codesO => b .codesO | .codesW => b .codesW | .scalesO => b .scalesO | .xsW => b .xsW
  | .q => b .q | .k => b .k | .v => b .v | .sc => b .sc
  | .x => b .x | .g => b .g | .w => b .w | .s => b .s | .gq => b .gq | .gk => b .gk | .cos => b .cos | .sin => b .sin

theorem codesOf_congr {b b' : 𝔹} (hx : b' .x = b .x) (hg : b' .g = b .g) : codesOf b' = codesOf b := by
  unfold codesOf normOf
  rw [hx, hg]

theorem scaleOf_congr {b b' : 𝔹} (hx : b' .x = b .x) (hg : b' .g = b .g) : scaleOf b' = scaleOf b := by
  unfold scaleOf normOf
  rw [hx, hg]

theorem step_sem (b : 𝔹) : ((step (F := Ideal) U c M).sem b).2 = stepped b := by
  have e : ((step (F := Ideal) U c M).sem b).2
      = ((headStage (F := Ideal) U c M).sem ((quantStage (F := Ideal) U c M).sem ((matmulStage (F := Ideal) U c M).sem b).2).2).2 := by
    unfold step
    rw [sem_bind, sem_bind]
  rw [e]
  have h1 := matmulStage_spec U c b
  generalize ((matmulStage (F := Ideal) U c M).sem b).2 = b1 at h1
  have h2 := quantStage_spec U c b1
  generalize ((quantStage (F := Ideal) U c M).sem b1).2 = b2 at h2
  have h3 := headStage_spec U c b2
  generalize ((headStage (F := Ideal) U c M).sem b2).2 = b3 at h3
  obtain ⟨k1, q1⟩ := h1
  obtain ⟨k2, co, coO, xs, so⟩ := h2
  obtain ⟨k3, hq, hk, hv, hs⟩ := h3
  have eb : ∀ j : Bf, j ∉ [Bf.qkvW, .codesW, .codesO, .xsW, .scalesO] → b2 j = b j := fun j hj => by
    simp only [List.mem_cons, not_or, List.not_mem_nil, not_false_eq_true, and_true] at hj
    exact (k2 j (by simp [hj])).trans (k1 j (by simp [hj]))
  have ec := codesOf_congr (b := b) (b' := b1) (k1 _ (by simp)) (k1 _ (by simp))
  have es := scaleOf_congr (b := b) (b' := b1) (k1 _ (by simp)) (k1 _ (by simp))
  have gq : qOf b2 = qOf b := by
    unfold qOf
    rw [eb .qkvR (by simp), eb .gq (by simp), eb .cos (by simp), eb .sin (by simp)]
  have gk : kOf b2 = kOf b := by
    unfold kOf
    rw [eb .qkvR (by simp), eb .gk (by simp), eb .cos (by simp), eb .sin (by simp)]
  have gv : vOf b2 = vOf b := by
    unfold vOf
    rw [eb .qkvR (by simp)]
  have gs : scOf b2 = scOf b := by
    unfold scOf
    rw [eb .qkvR (by simp), eb .gk (by simp), eb .cos (by simp), eb .sin (by simp)]
  rw [gq] at hq
  rw [gk] at hk
  rw [gv] at hv
  rw [gs] at hs
  rw [ec] at co coO
  rw [es] at xs so
  have keep : ∀ j : Bf, j ∉ [Bf.qkvW, .codesW, .codesO, .xsW, .scalesO, .q, .k, .v, .sc] → b3 j = b j := fun j hj => by
    simp only [List.mem_cons, not_or, List.not_mem_nil, not_false_eq_true, and_true] at hj
    exact (k3 j (by simp [hj])).trans (eb j (by simp [hj]))
  funext j
  cases j
  case codesO => exact (k3 _ (by simp)).trans (eq_mat coO fun _ _ _ _ => trivial)
  case codesW => exact (k3 _ (by simp)).trans (eq_mat co fun _ _ _ _ => trivial)
  case xsW => exact (k3 _ (by simp)).trans (eq_mat (R := 256) (C := 128) (G := fun i _ => scaleOf b i) xs fun _ _ _ _ => trivial)
  case scalesO => exact (k3 _ (by simp)).trans (eq_lanes so)
  case qkvW => exact (k3 _ (by simp)).trans ((k2 _ (by simp)).trans (eq_mat q1 fun _ _ _ _ => trivial))
  case q => exact eq_mat hq fun _ _ h _ => by omega
  case k => exact eq_mat hk fun _ _ h _ => by omega
  case v => exact eq_mat hv fun _ _ h _ => by omega
  case sc => exact eq_mat hs fun _ _ h _ => by omega
  all_goals exact keep _ (by simp)

theorem put_whole {V : Type} {R C : ℕ} (x y : (⟨2, ![R, C]⟩ : Shape).Idx → V) (v : V) (hy : ∀ i j, y (ix2 i j) = v) :
    VecWindow.put (s := ⟨2, ![R, C]⟩) x ![0, 0] ![R, C] y = fun _ => v := by
  have h := Agree.put (x := x) (G := fun _ _ => v) (P := fun _ _ => False) (fun _ _ h => h.elim) (fun _ _ => True)
    (inb2 (R := R) (C := C) (r := 0) (c := 0) (h := R) (w := C) (by omega) (by omega)) y (fun i j => hy i j) (fun a b ha hb _ => by right; omega)
  funext z
  rw [eta2 z]
  exact h _ _ trivial

theorem zero_sem (b : 𝔹) : ((zeroStage (F := Ideal) U c M).sem b).2 = cleared b := by
  have e : ((zeroStage (F := Ideal) U c M).sem b).2
      = Function.update (Function.update (Function.update (Function.update b
        .codesR (VecWindow.put (s := S256x5376) (b .codesR) ![0, 0] ![256, 5376] (shapeCast S256x5376 (broadcast S256x5376 (Scalar.ofBits .fp8e4m3 0x00#8) : FVec Ideal S256x5376 .fp8e4m3) shapeCasts_S256x5376_S256x5376)))
        .xsR (VecWindow.put (s := S256x128) (b .xsR) ![0, 0] ![256, 128] (shapeCast S256x128 (broadcast S256x128 (Scalar.ofBits .f32 0x00000000#32) : FVec Ideal S256x128 .f32) shapeCasts_S256x128_S256x128)))
        .qkvR (VecWindow.put (s := S256x2048) (b .qkvR) ![0, 0] ![256, 2048] (shapeCast S256x2048 (broadcast S256x2048 (Scalar.ofBits .f32 0x00000000#32) : FVec Ideal S256x2048 .f32) shapeCasts_S256x2048_S256x2048)))
        .qkvW (VecWindow.put (s := S256x2048) (b .qkvW) ![0, 0] ![256, 2048] (shapeCast S256x2048 (broadcast S256x2048 (Scalar.ofBits .f32 0x00000000#32) : FVec Ideal S256x2048 .f32) shapeCasts_S256x2048_S256x2048)) := by
    rfl
  rw [e]
  funext j
  cases j
  case codesR =>
    rw [Function.update_of_ne (by simp), Function.update_of_ne (by simp), Function.update_of_ne (by simp), Function.update_self]
    exact put_whole (V := EReal) (R := 256) (C := 5376) _ _ 0 fun i j => by
      pointwise []
      exact Ideal.ofBits_zero _
  case xsR =>
    rw [Function.update_of_ne (by simp), Function.update_of_ne (by simp), Function.update_self]
    exact put_whole (V := EReal) (R := 256) (C := 128) _ _ 0 fun i j => by pointwise []
  case qkvR =>
    rw [Function.update_of_ne (by simp), Function.update_self]
    exact put_whole (V := EReal) (R := 256) (C := 2048) _ _ 0 fun i j => by pointwise []
  case qkvW =>
    rw [Function.update_self]
    exact put_whole (V := EReal) (R := 256) (C := 2048) _ _ 0 fun i j => by pointwise []
  all_goals
    rw [Function.update_of_ne (by simp), Function.update_of_ne (by simp), Function.update_of_ne (by simp), Function.update_of_ne (by simp)]
    rfl

end Cert.ProjectIdeal.Val
-- ==== Proof.Project.Run.lean ====
/-
  The run of the whole projection: what every grid point finds and leaves, and what the arrays hold at the end.
-/
module

public import proofs.«01_k».proof.Proof.Project.Point
public import proofs.«01_k».proof.Proof.Gen.ProjectIdeal.Frame.Runs
public import Idealize.ShloMosaic.Lib.Claim

@[expose] public section

noncomputable section

namespace Cert.ProjectIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Body Cert.Math
open Cert.ProjectIdeal.Gen

section Rows

/-- The codes, the scales, the scaled products and the heads of a block, row by row. -/
abbrev codeRows (x : Vec Ideal S256x5376 .bf16) (g : Vec Ideal S1x5376 .f32) (i : Fin 256) : Fin 5376 → EReal := code (norm nModel (row x i) (row g 0))
abbrev scaleRows (x : Vec Ideal S256x5376 .bf16) (g : Vec Ideal S1x5376 .f32) (i : Fin 256) : EReal := scale (top (norm nModel (row x i) (row g 0)))
abbrev qkvRows (co : Vec Ideal S256x5376 .fp8e4m3) (xs : Vec Ideal S256x128 .f32) (w : Vec Ideal S5376x2048 .fp8e4m3) (s : Vec Ideal S1x2048 .f32) (i : Fin 256) :
    Fin 2048 → EReal := qkvRow (row co i) (row xs i) (row w) (row s 0)
abbrev qRows (z : Vec Ideal S256x2048 .f32) (g : Vec Ideal S1x128 .f32) (cs sn : Vec Ideal S256x64 .f32) (i : Fin 256) : Fin 1024 → EReal := qRow (row z i) (row g 0) (row cs i) (row sn i)
abbrev kRows (z : Vec Ideal S256x2048 .f32) (g : Vec Ideal S1x128 .f32) (cs sn : Vec Ideal S256x64 .f32) (i : Fin 256) : Fin 512 → EReal := kRow (row z i) (row g 0) (row cs i) (row sn i)
abbrev vRows (z : Vec Ideal S256x2048 .f32) (i : Fin 256) : Fin 512 → EReal := vRow (row z i)
abbrev scRows (z : Vec Ideal S256x2048 .f32) (g : Vec Ideal S1x128 .f32) (cs sn : Vec Ideal S256x64 .f32) (i : Fin 256) : Fin 128 → EReal := scRow (row z i) (row g 0) (row cs i) (row sn i)

end Rows

local notation "𝕌" => UR sig nD τ
local notation "𝕄" => MT nD τ sig Unit (Elt Ideal) ℕ (UR sig nD τ) ℕ

section Point

variable (c : Dev nD) (M : Mem)

/-- The twenty buffers at the contents given. -/
def bufs (v_x : Vec Ideal S256x5376 .bf16) (v_g : Vec Ideal S1x5376 .f32) (v_w : Vec Ideal S5376x2048 .fp8e4m3) (v_s : Vec Ideal S1x2048 .f32) (v_gq : Vec Ideal S1x128 .f32) (v_gk : Vec Ideal S1x128 .f32) (v_cos : Vec Ideal S256x64 .f32) (v_sin : Vec Ideal S256x64 .f32) (v_codesO : Vec Ideal S256x5376 .fp8e4m3) (v_scalesO : Vec Ideal S1x2x128 .f32) (v_q : Vec Ideal S256x1024 .bf16) (v_k : Vec Ideal S256x512 .fp8e4m3) (v_v : Vec Ideal S256x512 .fp8e4m3) (v_sc : Vec Ideal S256x128 .f32) (v_codesW : Vec Ideal S256x5376 .fp8e4m3) (v_codesR : Vec Ideal S256x5376 .fp8e4m3) (v_xsW : Vec Ideal S256x128 .f32) (v_xsR : Vec Ideal S256x128 .f32) (v_qkvW : Vec Ideal S256x2048 .f32) (v_qkvR : Vec Ideal S256x2048 .f32) : Bufs (Elt Ideal) M.frame
  | .x => v_x
  | .g => v_g
  | .w => v_w
  | .s => v_s
  | .gq => v_gq
  | .gk => v_gk
  | .cos => v_cos
  | .sin => v_sin
  | .codesO => v_codesO
  | .scalesO => v_scalesO
  | .q => v_q
  | .k => v_k
  | .v => v_v
  | .sc => v_sc
  | .codesW => v_codesW
  | .codesR => v_codesR
  | .xsW => v_xsW
  | .xsR => v_xsR
  | .qkvW => v_qkvW
  | .qkvR => v_qkvR

theorem held_eq (b : Bufs (Elt Ideal) M.frame) : (held c M.frame b : sProp 𝕄)
    = iprop(owns (c : Thread nD τ) (M.ref .x) fullShare (b .x)
      ∗ owns (c : Thread nD τ) (M.ref .g) fullShare (b .g)
      ∗ owns (c : Thread nD τ) (M.ref .w) fullShare (b .w)
      ∗ owns (c : Thread nD τ) (M.ref .s) fullShare (b .s)
      ∗ owns (c : Thread nD τ) (M.ref .gq) fullShare (b .gq)
      ∗ owns (c : Thread nD τ) (M.ref .gk) fullShare (b .gk)
      ∗ owns (c : Thread nD τ) (M.ref .cos) fullShare (b .cos)
      ∗ owns (c : Thread nD τ) (M.ref .sin) fullShare (b .sin)
      ∗ owns (c : Thread nD τ) (M.ref .codesO) fullShare (b .codesO)
      ∗ owns (c : Thread nD τ) (M.ref .scalesO) fullShare (b .scalesO)
      ∗ owns (c : Thread nD τ) (M.ref .q) fullShare (b .q)
      ∗ owns (c : Thread nD τ) (M.ref .k) fullShare (b .k)
      ∗ owns (c : Thread nD τ) (M.ref .v) fullShare (b .v)
      ∗ owns (c : Thread nD τ) (M.ref .sc) fullShare (b .sc)
      ∗ owns (c : Thread nD τ) (M.ref .codesW) fullShare (b .codesW)
      ∗ owns (c : Thread nD τ) (M.ref .codesR) fullShare (b .codesR)
      ∗ owns (c : Thread nD τ) (M.ref .xsW) fullShare (b .xsW)
      ∗ owns (c : Thread nD τ) (M.ref .xsR) fullShare (b .xsR)
      ∗ owns (c : Thread nD τ) (M.ref .qkvW) fullShare (b .qkvW)
      ∗ owns (c : Thread nD τ) (M.ref .qkvR) fullShare (b .qkvR)) :=
  bigSep_univ_eq_bigSepL ([.x, .g, .w, .s, .gq, .gk, .cos, .sin, .codesO, .scalesO, .q, .k, .v, .sc, .codesW, .codesR, .xsW, .xsR, .qkvW, .qkvR] : List Bf) (by decide) (by decide) _

/-- A grid point's run, from the contents of the buffers to the contents it leaves. -/
theorem step_run (v_x : Vec Ideal S256x5376 .bf16) (v_g : Vec Ideal S1x5376 .f32) (v_w : Vec Ideal S5376x2048 .fp8e4m3) (v_s : Vec Ideal S1x2048 .f32) (v_gq : Vec Ideal S1x128 .f32) (v_gk : Vec Ideal S1x128 .f32) (v_cos : Vec Ideal S256x64 .f32) (v_sin : Vec Ideal S256x64 .f32) (v_codesO : Vec Ideal S256x5376 .fp8e4m3) (v_scalesO : Vec Ideal S1x2x128 .f32) (v_q : Vec Ideal S256x1024 .bf16) (v_k : Vec Ideal S256x512 .fp8e4m3) (v_v : Vec Ideal S256x512 .fp8e4m3) (v_sc : Vec Ideal S256x128 .f32) (v_codesW : Vec Ideal S256x5376 .fp8e4m3) (v_codesR : Vec Ideal S256x5376 .fp8e4m3) (v_xsW : Vec Ideal S256x128 .f32) (v_xsR : Vec Ideal S256x128 .f32) (v_qkvW : Vec Ideal S256x2048 .f32) (v_qkvR : Vec Ideal S256x2048 .f32) (E : Set ℕ) (K : PUnit → sProp 𝕄) :
    iprop((owns (c : Thread nD τ) (M.ref .x) fullShare v_x
      ∗ owns (c : Thread nD τ) (M.ref .g) fullShare v_g
      ∗ owns (c : Thread nD τ) (M.ref .w) fullShare v_w
      ∗ owns (c : Thread nD τ) (M.ref .s) fullShare v_s
      ∗ owns (c : Thread nD τ) (M.ref .gq) fullShare v_gq
      ∗ owns (c : Thread nD τ) (M.ref .gk) fullShare v_gk
      ∗ owns (c : Thread nD τ) (M.ref .cos) fullShare v_cos
      ∗ owns (c : Thread nD τ) (M.ref .sin) fullShare v_sin
      ∗ owns (c : Thread nD τ) (M.ref .codesO) fullShare v_codesO
      ∗ owns (c : Thread nD τ) (M.ref .scalesO) fullShare v_scalesO
      ∗ owns (c : Thread nD τ) (M.ref .q) fullShare v_q
      ∗ owns (c : Thread nD τ) (M.ref .k) fullShare v_k
      ∗ owns (c : Thread nD τ) (M.ref .v) fullShare v_v
      ∗ owns (c : Thread nD τ) (M.ref .sc) fullShare v_sc
      ∗ owns (c : Thread nD τ) (M.ref .codesW) fullShare v_codesW
      ∗ owns (c : Thread nD τ) (M.ref .codesR) fullShare v_codesR
      ∗ owns (c : Thread nD τ) (M.ref .xsW) fullShare v_xsW
      ∗ owns (c : Thread nD τ) (M.ref .xsR) fullShare v_xsR
      ∗ owns (c : Thread nD τ) (M.ref .qkvW) fullShare v_qkvW
      ∗ owns (c : Thread nD τ) (M.ref .qkvR) fullShare v_qkvR)
      ∗ ((owns (c : Thread nD τ) (M.ref .x) fullShare v_x
      ∗ owns (c : Thread nD τ) (M.ref .g) fullShare v_g
      ∗ owns (c : Thread nD τ) (M.ref .w) fullShare v_w
      ∗ owns (c : Thread nD τ) (M.ref .s) fullShare v_s
      ∗ owns (c : Thread nD τ) (M.ref .gq) fullShare v_gq
      ∗ owns (c : Thread nD τ) (M.ref .gk) fullShare v_gk
      ∗ owns (c : Thread nD τ) (M.ref .cos) fullShare v_cos
      ∗ owns (c : Thread nD τ) (M.ref .sin) fullShare v_sin
      ∗ owns (c : Thread nD τ) (M.ref .codesO) fullShare (mat (codeRows v_x v_g))
      ∗ owns (c : Thread nD τ) (M.ref .scalesO) fullShare (lanes (scaleRows v_x v_g))
      ∗ owns (c : Thread nD τ) (M.ref .q) fullShare (mat (qRows v_qkvR v_gq v_cos v_sin))
      ∗ owns (c : Thread nD τ) (M.ref .k) fullShare (mat (kRows v_qkvR v_gk v_cos v_sin))
      ∗ owns (c : Thread nD τ) (M.ref .v) fullShare (mat (vRows v_qkvR))
      ∗ owns (c : Thread nD τ) (M.ref .sc) fullShare (mat (scRows v_qkvR v_gk v_cos v_sin))
      ∗ owns (c : Thread nD τ) (M.ref .codesW) fullShare (mat (codeRows v_x v_g))
      ∗ owns (c : Thread nD τ) (M.ref .codesR) fullShare v_codesR
      ∗ owns (c : Thread nD τ) (M.ref .xsW) fullShare (mat fun i _ => scaleRows v_x v_g i)
      ∗ owns (c : Thread nD τ) (M.ref .xsR) fullShare v_xsR
      ∗ owns (c : Thread nD τ) (M.ref .qkvW) fullShare (mat (qkvRows v_codesR v_xsR v_w v_s))
      ∗ owns (c : Thread nD τ) (M.ref .qkvR) fullShare v_qkvR) -∗ K ⟨⟩))
    ⊢ wp frame (wpE (defs₀ (F := Ideal)) Variants.none (c : Thread nD τ) none) E (step (F := Ideal) 𝕌 c M).prog K := by
  have h := (step (F := Ideal) 𝕌 c M).ok (bufs M v_x v_g v_w v_s v_gq v_gk v_cos v_sin v_codesO v_scalesO v_q v_k v_v v_sc v_codesW v_codesR v_xsW v_xsR v_qkvW v_qkvR) E K
  rw [step_sem, held_eq, held_eq] at h
  exact h

/-- The first point's run: whatever the carried buffers held. -/
theorem first_run (v_x : Vec Ideal S256x5376 .bf16) (v_g : Vec Ideal S1x5376 .f32) (v_w : Vec Ideal S5376x2048 .fp8e4m3) (v_s : Vec Ideal S1x2048 .f32) (v_gq : Vec Ideal S1x128 .f32) (v_gk : Vec Ideal S1x128 .f32) (v_cos : Vec Ideal S256x64 .f32) (v_sin : Vec Ideal S256x64 .f32) (v_codesO : Vec Ideal S256x5376 .fp8e4m3) (v_scalesO : Vec Ideal S1x2x128 .f32) (v_q : Vec Ideal S256x1024 .bf16) (v_k : Vec Ideal S256x512 .fp8e4m3) (v_v : Vec Ideal S256x512 .fp8e4m3) (v_sc : Vec Ideal S256x128 .f32) (v_codesW : Vec Ideal S256x5376 .fp8e4m3) (v_codesR : Vec Ideal S256x5376 .fp8e4m3) (v_xsW : Vec Ideal S256x128 .f32) (v_xsR : Vec Ideal S256x128 .f32) (v_qkvW : Vec Ideal S256x2048 .f32) (v_qkvR : Vec Ideal S256x2048 .f32) (E : Set ℕ) (K : PUnit → sProp 𝕄) :
    iprop((owns (c : Thread nD τ) (M.ref .x) fullShare v_x
      ∗ owns (c : Thread nD τ) (M.ref .g) fullShare v_g
      ∗ owns (c : Thread nD τ) (M.ref .w) fullShare v_w
      ∗ owns (c : Thread nD τ) (M.ref .s) fullShare v_s
      ∗ owns (c : Thread nD τ) (M.ref .gq) fullShare v_gq
      ∗ owns (c : Thread nD τ) (M.ref .gk) fullShare v_gk
      ∗ owns (c : Thread nD τ) (M.ref .cos) fullShare v_cos
      ∗ owns (c : Thread nD τ) (M.ref .sin) fullShare v_sin
      ∗ owns (c : Thread nD τ) (M.ref .codesO) fullShare v_codesO
      ∗ owns (c : Thread nD τ) (M.ref .scalesO) fullShare v_scalesO
      ∗ owns (c : Thread nD τ) (M.ref .q) fullShare v_q
      ∗ owns (c : Thread nD τ) (M.ref .k) fullShare v_k
      ∗ owns (c : Thread nD τ) (M.ref .v) fullShare v_v
      ∗ owns (c : Thread nD τ) (M.ref .sc) fullShare v_sc
      ∗ owns (c : Thread nD τ) (M.ref .codesW) fullShare v_codesW
      ∗ owns (c : Thread nD τ) (M.ref .codesR) fullShare v_codesR
      ∗ owns (c : Thread nD τ) (M.ref .xsW) fullShare v_xsW
      ∗ owns (c : Thread nD τ) (M.ref .xsR) fullShare v_xsR
      ∗ owns (c : Thread nD τ) (M.ref .qkvW) fullShare v_qkvW
      ∗ owns (c : Thread nD τ) (M.ref .qkvR) fullShare v_qkvR)
      ∗ ((owns (c : Thread nD τ) (M.ref .x) fullShare v_x
      ∗ owns (c : Thread nD τ) (M.ref .g) fullShare v_g
      ∗ owns (c : Thread nD τ) (M.ref .w) fullShare v_w
      ∗ owns (c : Thread nD τ) (M.ref .s) fullShare v_s
      ∗ owns (c : Thread nD τ) (M.ref .gq) fullShare v_gq
      ∗ owns (c : Thread nD τ) (M.ref .gk) fullShare v_gk
      ∗ owns (c : Thread nD τ) (M.ref .cos) fullShare v_cos
      ∗ owns (c : Thread nD τ) (M.ref .sin) fullShare v_sin
      ∗ owns (c : Thread nD τ) (M.ref .codesO) fullShare (mat (codeRows v_x v_g))
      ∗ owns (c : Thread nD τ) (M.ref .scalesO) fullShare (lanes (scaleRows v_x v_g))
      ∗ owns (c : Thread nD τ) (M.ref .q) fullShare (mat (qRows (mat fun _ _ => 0) v_gq v_cos v_sin))
      ∗ owns (c : Thread nD τ) (M.ref .k) fullShare (mat (kRows (mat fun _ _ => 0) v_gk v_cos v_sin))
      ∗ owns (c : Thread nD τ) (M.ref .v) fullShare (mat (vRows (mat fun _ _ => 0)))
      ∗ owns (c : Thread nD τ) (M.ref .sc) fullShare (mat (scRows (mat fun _ _ => 0) v_gk v_cos v_sin))
      ∗ owns (c : Thread nD τ) (M.ref .codesW) fullShare (mat (codeRows v_x v_g))
      ∗ owns (c : Thread nD τ) (M.ref .codesR) fullShare (mat fun _ _ => 0)
      ∗ owns (c : Thread nD τ) (M.ref .xsW) fullShare (mat fun i _ => scaleRows v_x v_g i)
      ∗ owns (c : Thread nD τ) (M.ref .xsR) fullShare (mat fun _ _ => 0)
      ∗ owns (c : Thread nD τ) (M.ref .qkvW) fullShare (mat (qkvRows (mat fun _ _ => 0) (mat fun _ _ => 0) v_w v_s))
      ∗ owns (c : Thread nD τ) (M.ref .qkvR) fullShare (mat fun _ _ => 0)) -∗ K ⟨⟩))
    ⊢ wp frame (wpE (defs₀ (F := Ideal)) Variants.none (c : Thread nD τ) none) E (Act.bind (zeroStage (F := Ideal) 𝕌 c M) fun _ => step (F := Ideal) 𝕌 c M).prog K := by
  have h := (Act.bind (zeroStage (F := Ideal) 𝕌 c M) fun _ => step (F := Ideal) 𝕌 c M).ok (bufs M v_x v_g v_w v_s v_gq v_gk v_cos v_sin v_codesO v_scalesO v_q v_k v_v v_sc v_codesW v_codesR v_xsW v_xsR v_qkvW v_qkvR) E K
  rw [show ((Act.bind (zeroStage (F := Ideal) 𝕌 c M) fun _ => step (F := Ideal) 𝕌 c M).sem (bufs M v_x v_g v_w v_s v_gq v_gk v_cos v_sin v_codesO v_scalesO v_q v_k v_v v_sc v_codesW v_codesR v_xsW v_xsR v_qkvW v_qkvR)).2
    = ((step (F := Ideal) 𝕌 c M).sem ((zeroStage (F := Ideal) 𝕌 c M).sem (bufs M v_x v_g v_w v_s v_gq v_gk v_cos v_sin v_codesO v_scalesO v_q v_k v_v v_sc v_codesW v_codesR v_xsW v_xsR v_qkvW v_qkvR)).2).2 from (rfl), step_sem, zero_sem, held_eq, held_eq] at h
  exact h

end Point

end Cert.ProjectIdeal.Val
-- ==== Proof.Project.Flow.lean ====
/-
  The run of the whole projection: what every grid point finds and leaves.
-/
module

public import proofs.«01_k».proof.Proof.Project.Run

@[expose] public section

set_option maxRecDepth 16384

noncomputable section

namespace Cert.ProjectIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Body Cert.Math
open Cert.ProjectIdeal.Gen

local notation "𝕌" => UR sig nD τ
local notation "𝕄" => MT nD τ sig Unit (Elt Ideal) ℕ (UR sig nD τ) ℕ

variable (m : (ℓ : Loc nD τ sig) → Buf (Elt Ideal) ℓ) (ρ : Dev nD → PrngReg) (c : Dev nD)

/-- A grid point by its number. -/
def pt (n : ℕ) : Fin cfg0.N := ⟨min n 52, lt_of_le_of_lt (Nat.min_le_right _ _) (by rw [show cfg0.N = 53 from N_0]; decide)⟩

theorem pt_val (t : Fin cfg0.N) : pt t.val = t := by
  apply Fin.ext
  have hN : t.val < 53 := lt_of_lt_of_eq t.isLt (show cfg0.N = 53 from N_0)
  show min t.val 52 = t.val
  omega

/-! The blocks of the inputs at a point. -/
abbrev xB (t : Fin cfg0.N) : Vec Ideal S256x5376 .bf16 := iblk m c 0 t
abbrev gB (t : Fin cfg0.N) : Vec Ideal S1x5376 .f32 := iblk m c 1 t
abbrev wB (t : Fin cfg0.N) : Vec Ideal S5376x2048 .fp8e4m3 := iblk m c 2 t
abbrev sB (t : Fin cfg0.N) : Vec Ideal S1x2048 .f32 := iblk m c 3 t
abbrev gqB (t : Fin cfg0.N) : Vec Ideal S1x128 .f32 := iblk m c 4 t
abbrev gkB (t : Fin cfg0.N) : Vec Ideal S1x128 .f32 := iblk m c 5 t
abbrev cosB (t : Fin cfg0.N) : Vec Ideal S256x64 .f32 := iblk m c 6 t
abbrev sinB (t : Fin cfg0.N) : Vec Ideal S256x64 .f32 := iblk m c 7 t

/-- The codes and scales the points before number `n` left for point `n`: nothing before the first. -/
def codesAt : ℕ → Vec Ideal S256x5376 .fp8e4m3
  | 0 => mat fun _ _ => 0
  | n + 1 => mat (codeRows (xB m c (pt n)) (gB m c (pt n)))
def xsAt : ℕ → Vec Ideal S256x128 .f32
  | 0 => mat fun _ _ => 0
  | n + 1 => mat fun i _ => scaleRows (xB m c (pt n)) (gB m c (pt n)) i
/-- The scaled products left for point `n`. -/
def qkvAt : ℕ → Vec Ideal S256x2048 .f32
  | 0 => mat fun _ _ => 0
  | n + 1 => mat (qkvRows (codesAt m c n) (xsAt m c n) (wB m c (pt n)) (sB m c (pt n)))

theorem codesAt_succ (t : Fin cfg0.N) : codesAt m c (t.val + 1) = mat (codeRows (xB m c t) (gB m c t)) :=
  congrArg (fun p => mat (codeRows (xB m c p) (gB m c p))) (pt_val t)
theorem xsAt_succ (t : Fin cfg0.N) : xsAt m c (t.val + 1) = mat fun i _ => scaleRows (xB m c t) (gB m c t) i :=
  congrArg (fun p => mat fun i (_ : Fin 128) => scaleRows (xB m c p) (gB m c p) i) (pt_val t)
theorem qkvAt_succ (t : Fin cfg0.N) : qkvAt m c (t.val + 1) = mat (qkvRows (codesAt m c t.val) (xsAt m c t.val) (wB m c t) (sB m c t)) :=
  congrArg (fun p => mat (qkvRows (codesAt m c t.val) (xsAt m c t.val) (wB m c p) (sB m c p))) (pt_val t)

/-! The blocks of the outputs at a point. -/
abbrev codesB (t : Fin cfg0.N) : Vec Ideal S256x5376 .fp8e4m3 := mat (codeRows (xB m c t) (gB m c t))
abbrev scalesB (t : Fin cfg0.N) : Vec Ideal S1x2x128 .f32 := lanes (scaleRows (xB m c t) (gB m c t))
abbrev qB (t : Fin cfg0.N) : Vec Ideal S256x1024 .bf16 := mat (qRows (qkvAt m c t.val) (gqB m c t) (cosB m c t) (sinB m c t))
abbrev kB (t : Fin cfg0.N) : Vec Ideal S256x512 .fp8e4m3 := mat (kRows (qkvAt m c t.val) (gkB m c t) (cosB m c t) (sinB m c t))
abbrev vB (t : Fin cfg0.N) : Vec Ideal S256x512 .fp8e4m3 := mat (vRows (qkvAt m c t.val))
abbrev scB (t : Fin cfg0.N) : Vec Ideal S256x128 .f32 := mat (scRows (qkvAt m c t.val) (gkB m c t) (cosB m c t) (sinB m c t))

/-- The six carried buffers at given contents. -/
def carried (a0 a1 : Vec Ideal S256x5376 .fp8e4m3) (a2 a3 : Vec Ideal S256x128 .f32) (a4 a5 : Vec Ideal S256x2048 .f32) : sProp 𝕄 :=
  iprop((owns (c : Thread nD τ) scM0_0 fullShare a0 ∗ owns (c : Thread nD τ) scM0_1 fullShare a1 ∗ owns (c : Thread nD τ) scM0_2 fullShare a2
    ∗ owns (c : Thread nD τ) scM0_3 fullShare a3 ∗ owns (c : Thread nD τ) scM0_4 fullShare a4 ∗ owns (c : Thread nD τ) scM0_5 fullShare a5)
    ∗ (∃ r, prngReg c r))

/-- What the carried buffers hold before point `n`: after an even point its codes, scales and products are in the first, third and last. -/
def inv : ℕ → sProp 𝕄
  | 0 => Pipeline.ΦA spec0 c
  | n + 1 => if n % 2 = 0
      then carried c (codesAt m c (n + 1)) (codesAt m c n) (xsAt m c (n + 1)) (xsAt m c n) (qkvAt m c n) (qkvAt m c (n + 1))
      else carried c (codesAt m c n) (codesAt m c (n + 1)) (xsAt m c n) (xsAt m c (n + 1)) (qkvAt m c (n + 1)) (qkvAt m c n)

theorem inv_even (n : ℕ) (h : n % 2 = 0) : inv m c (n + 1)
    = carried c (codesAt m c (n + 1)) (codesAt m c n) (xsAt m c (n + 1)) (xsAt m c n) (qkvAt m c n) (qkvAt m c (n + 1)) := if_pos h
theorem inv_odd (n : ℕ) (h : ¬ n % 2 = 0) : inv m c (n + 1)
    = carried c (codesAt m c n) (codesAt m c (n + 1)) (xsAt m c n) (xsAt m c (n + 1)) (qkvAt m c (n + 1)) (qkvAt m c n) := if_neg h

/-- The proof data of the pipeline. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => codesB m c t
    | ⟨9, _⟩ => scalesB m c t
    | ⟨10, _⟩ => qB m c t
    | ⟨11, _⟩ => kB m c t
    | ⟨12, _⟩ => vB m c t
    | ⟨13, _⟩ => scB m c t
  Φ t := inv m c t.val
  q _ := fullShare
  owed _ := 0

theorem A_eq (w : Fin cfg0.W) : (dats m 0 c).A w = V m c (Pipeline.arrRef spec0 w) := by
  dsimp only [dats]

theorem before_0 (t : Fin cfg0.N) (d) : (dats m 0 c).before 0 t d = iblk m c 0 t :=
  before0_0_of m (dats m 0 c) (A_eq m c 0) (fun t => by dsimp only [dats]) t d
theorem before_1 (t : Fin cfg0.N) (d) : (dats m 0 c).before 1 t d = iblk m c 1 t :=
  before0_1_of m (dats m 0 c) (A_eq m c 1) (fun t => by dsimp only [dats]) t d
theorem before_2 (t : Fin cfg0.N) (d) : (dats m 0 c).before 2 t d = iblk m c 2 t :=
  before0_2_of m (dats m 0 c) (A_eq m c 2) (fun t => by dsimp only [dats]) t d
theorem before_3 (t : Fin cfg0.N) (d) : (dats m 0 c).before 3 t d = iblk m c 3 t :=
  before0_3_of m (dats m 0 c) (A_eq m c 3) (fun t => by dsimp only [dats]) t d
theorem before_4 (t : Fin cfg0.N) (d) : (dats m 0 c).before 4 t d = iblk m c 4 t :=
  before0_4_of m (dats m 0 c) (A_eq m c 4) (fun t => by dsimp only [dats]) t d
theorem before_5 (t : Fin cfg0.N) (d) : (dats m 0 c).before 5 t d = iblk m c 5 t :=
  before0_5_of m (dats m 0 c) (A_eq m c 5) (fun t => by dsimp only [dats]) t d
theorem before_6 (t : Fin cfg0.N) (d) : (dats m 0 c).before 6 t d = iblk m c 6 t :=
  before0_6_of m (dats m 0 c) (A_eq m c 6) (fun t => by dsimp only [dats]) t d
theorem before_7 (t : Fin cfg0.N) (d) : (dats m 0 c).before 7 t d = iblk m c 7 t :=
  before0_7_of m (dats m 0 c) (A_eq m c 7) (fun t => by dsimp only [dats]) t d

theorem live : ∀ (w : Fin 14) (t : Fin cfg0.N), cfg0.idle w (grid0.coords t) = false := by decide +kernel

/-- What the body is called with at point `t`, window by window, -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t)

theorem leaves_0 (t : Fin cfg0.N) : (dats m 0 c).leavesExact 0 t = owns (c : Thread nD τ) (ms0_0 t) fullShare (iblk m c 0 t) := by
  unfold Dat.leavesExact
  rw [live 0 t]
  dsimp only [dats]
theorem leaves_1 (t : Fin cfg0.N) : (dats m 0 c).leavesExact 1 t = owns (c : Thread nD τ) (ms0_1 t) fullShare (iblk m c 1 t) := by
  unfold Dat.leavesExact
  rw [live 1 t]
  dsimp only [dats]
theorem leaves_2 (t : Fin cfg0.N) : (dats m 0 c).leavesExact 2 t = owns (c : Thread nD τ) (ms0_2 t) fullShare (iblk m c 2 t) := by
  unfold Dat.leavesExact
  rw [live 2 t]
  dsimp only [dats]
theorem leaves_3 (t : Fin cfg0.N) : (dats m 0 c).leavesExact 3 t = owns (c : Thread nD τ) (ms0_3 t) fullShare (iblk m c 3 t) := by
  unfold Dat.leavesExact
  rw [live 3 t]
  dsimp only [dats]
theorem leaves_4 (t : Fin cfg0.N) : (dats m 0 c).leavesExact 4 t = owns (c : Thread nD τ) (ms0_4 t) fullShare (iblk m c 4 t) := by
  unfold Dat.leavesExact
  rw [live 4 t]
  dsimp only [dats]
theorem leaves_5 (t : Fin cfg0.N) : (dats m 0 c).leavesExact 5 t = owns (c : Thread nD τ) (ms0_5 t) fullShare (iblk m c 5 t) := by
  unfold Dat.leavesExact
  rw [live 5 t]
  dsimp only [dats]
theorem leaves_6 (t : Fin cfg0.N) : (dats m 0 c).leavesExact 6 t = owns (c : Thread nD τ) (ms0_6 t) fullShare (iblk m c 6 t) := by
  unfold Dat.leavesExact
  rw [live 6 t]
  dsimp only [dats]
theorem leaves_7 (t : Fin cfg0.N) : (dats m 0 c).leavesExact 7 t = owns (c : Thread nD τ) (ms0_7 t) fullShare (iblk m c 7 t) := by
  unfold Dat.leavesExact
  rw [live 7 t]
  dsimp only [dats]
theorem leaves_8 (t : Fin cfg0.N) : (dats m 0 c).leavesExact 8 t = owns (c : Thread nD τ) (ms0_8 t) fullShare (codesB m c t) := by
  unfold Dat.leavesExact
  rw [live 8 t]
  dsimp only [dats]
theorem leaves_9 (t : Fin cfg0.N) : (dats m 0 c).leavesExact 9 t = owns (c : Thread nD τ) (ms0_9 t) fullShare (scalesB m c t) := by
  unfold Dat.leavesExact
  rw [live 9 t]
  dsimp only [dats]
theorem leaves_10 (t : Fin cfg0.N) : (dats m 0 c).leavesExact 10 t = owns (c : Thread nD τ) (ms0_10 t) fullShare (qB m c t) := by
  unfold Dat.leavesExact
  rw [live 10 t]
  dsimp only [dats]
theorem leaves_11 (t : Fin cfg0.N) : (dats m 0 c).leavesExact 11 t = owns (c : Thread nD τ) (ms0_11 t) fullShare (kB m c t) := by
  unfold Dat.leavesExact
  rw [live 11 t]
  dsimp only [dats]
theorem leaves_12 (t : Fin cfg0.N) : (dats m 0 c).leavesExact 12 t = owns (c : Thread nD τ) (ms0_12 t) fullShare (vB m c t) := by
  unfold Dat.leavesExact
  rw [live 12 t]
  dsimp only [dats]
theorem leaves_13 (t : Fin cfg0.N) : (dats m 0 c).leavesExact 13 t = owns (c : Thread nD τ) (ms0_13 t) fullShare (scB m c t) := by
  unfold Dat.leavesExact
  rw [live 13 t]
  dsimp only [dats]
/-- The first point. -/
theorem sound_first (t : Fin cfg0.N) (hz : t.val = 0) :
    bodyPre m c t ⊢ wp frame (wpE (defs₀ (F := Ideal)) Variants.none c none) Set.univ (bodyAt0 t) (fun _ => bodyPost m c t) := by
  have hN : t.val < 53 := lt_of_lt_of_eq t.isLt (show cfg0.N = 53 from N_0)
  unfold bodyPre bodyPost
  simp only [before_0, before_1, before_2, before_3, before_4, before_5, before_6, before_7]
  rw [show (dats m 0 c).owesAt () t.succ = (dats m 0 c).owesAt () t.castSucc from rfl,
    show (dats m 0 c).Φ t.succ = inv m c (t.val + 1) from rfl, show (dats m 0 c).Φ t.castSucc = inv m c t.val from rfl]
  rw [leaves_0, leaves_1, leaves_2, leaves_3, leaves_4, leaves_5, leaves_6, leaves_7, leaves_8, leaves_9, leaves_10, leaves_11, leaves_12, leaves_13]
  have hi : inv m c t.val = Pipeline.ΦA spec0 c := by rw [hz]; rfl
  rw [inv_even m c t.val (by omega), codesAt_succ, xsAt_succ, qkvAt_succ, hi, PhiA0_eq]
  unfold qB kB vB scB
  rw [show codesAt m c t.val = mat fun _ _ => 0 by rw [hz]; rfl, show xsAt m c t.val = mat fun _ _ => 0 by rw [hz]; rfl,
    show qkvAt m c t.val = mat fun _ _ => 0 by rw [hz]; rfl]
  unfold carried
  unfold bodyAt0
  rw [body_first (F := Ideal) 𝕌 c _ _ _ _ _ _ _ _ _ _ _ _ _ _ _ _ _ _ _ _ _ _ _ _ _ _ _ _ _ _ _ _ _ _ _ _ _ _ _ _ _ ((hcond0_0 t).mpr (by omega)) ((hcond0_1 t).mpr (by omega)) (fun h => absurd ((hcond0_2 t).mp h) (by omega))]
  iintro ⟨⟨⟨⟨%e0, S0⟩, ⟨%e1, S1⟩, ⟨%e2, S2⟩, ⟨%e3, S3⟩, ⟨%e4, S4⟩, ⟨%e5, S5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (first_run c _ _ _ _ _ _ _ _ _ _ _ _ _ _ _ _ _ _ _ _ _ Set.univ _)
  isplitl [H0 H1 H2 H3 H4 H5 H6 H7 H8 H9 H10 H11 H12 H13 S0 S1 S2 S3 S4 S5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    isplitl [S3]; · iexact S3
    isplitl [S5]; · iexact S5
    iexact S4
  iintro ⟨H0, H1, H2, H3, H4, H5, H6, H7, H8, H9, H10, H11, H12, H13, S0, S1, S2, S3, S5, S4⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A later even point. -/
theorem sound_even (t : Fin cfg0.N) (h0 : ¬ t.val % 53 = 0) (h1 : t.val % 2 = 0) :
    bodyPre m c t ⊢ wp frame (wpE (defs₀ (F := Ideal)) Variants.none c none) Set.univ (bodyAt0 t) (fun _ => bodyPost m c t) := by
  have hN : t.val < 53 := lt_of_lt_of_eq t.isLt (show cfg0.N = 53 from N_0)
  unfold bodyPre bodyPost
  simp only [before_0, before_1, before_2, before_3, before_4, before_5, before_6, before_7]
  rw [show (dats m 0 c).owesAt () t.succ = (dats m 0 c).owesAt () t.castSucc from rfl,
    show (dats m 0 c).Φ t.succ = inv m c (t.val + 1) from rfl, show (dats m 0 c).Φ t.castSucc = inv m c t.val from rfl]
  rw [leaves_0, leaves_1, leaves_2, leaves_3, leaves_4, leaves_5, leaves_6, leaves_7, leaves_8, leaves_9, leaves_10, leaves_11, leaves_12, leaves_13]
  have hi := inv_odd m c (t.val - 1) (by omega)
  rw [show t.val - 1 + 1 = t.val by omega] at hi
  rw [inv_even m c t.val h1, codesAt_succ, xsAt_succ, qkvAt_succ, hi]
  unfold carried
  unfold bodyAt0
  rw [body_even (F := Ideal) 𝕌 c _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => absurd ((hcond0_2 t).mp h) (by omega))]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (step_run c _ _ _ _ _ _ _ _ _ _ _ _ _ _ _ _ _ _ _ _ _ Set.univ _)
  isplitl [H0 H1 H2 H3 H4 H5 H6 H7 H8 H9 H10 H11 H12 H13 S0 S1 S2 S3 S4 S5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    isplitl [S3]; · iexact S3
    isplitl [S5]; · iexact S5
    iexact S4
  iintro ⟨H0, H1, H2, H3, H4, H5, H6, H7, H8, H9, H10, H11, H12, H13, S0, S1, S2, S3, S5, S4⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- An odd point. -/
theorem sound_odd (t : Fin cfg0.N) (h1 : ¬ t.val % 2 = 0) :
    bodyPre m c t ⊢ wp frame (wpE (defs₀ (F := Ideal)) Variants.none c none) Set.univ (bodyAt0 t) (fun _ => bodyPost m c t) := by
  have hN : t.val < 53 := lt_of_lt_of_eq t.isLt (show cfg0.N = 53 from N_0)
  unfold bodyPre bodyPost
  simp only [before_0, before_1, before_2, before_3, before_4, before_5, before_6, before_7]
  rw [show (dats m 0 c).owesAt () t.succ = (dats m 0 c).owesAt () t.castSucc from rfl,
    show (dats m 0 c).Φ t.succ = inv m c (t.val + 1) from rfl, show (dats m 0 c).Φ t.castSucc = inv m c t.val from rfl]
  rw [leaves_0, leaves_1, leaves_2, leaves_3, leaves_4, leaves_5, leaves_6, leaves_7, leaves_8, leaves_9, leaves_10, leaves_11, leaves_12, leaves_13]
  have hi := inv_even m c (t.val - 1) (by omega)
  rw [show t.val - 1 + 1 = t.val by omega] at hi
  rw [inv_odd m c t.val h1, codesAt_succ, xsAt_succ, qkvAt_succ, hi]
  unfold carried
  unfold bodyAt0
  rw [body_odd (F := Ideal) 𝕌 c _ _ _ _ _ _ _ _ _ _ _ _ _ _ _ _ _ _ _ _ _ _ _ _ _ _ _ _ _ _ _ _ _ _ _ _ _ _ _ _ _ (fun h => absurd ((hcond0_0 t).mp h) (by omega)) (fun h => h1 ((hcond0_1 t).mp h)) ((hcond0_2 t).mpr (by omega))]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (step_run c _ _ _ _ _ _ _ _ _ _ _ _ _ _ _ _ _ _ _ _ _ Set.univ _)
  isplitl [H0 H1 H2 H3 H4 H5 H6 H7 H8 H9 H10 H11 H12 H13 S0 S1 S2 S3 S4 S5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S1]; · iexact S1
    isplitl [S0]; · iexact S0
    isplitl [S3]; · iexact S3
    isplitl [S2]; · iexact S2
    isplitl [S4]; · iexact S4
    iexact S5
  iintro ⟨H0, H1, H2, H3, H4, H5, H6, H7, H8, H9, H10, H11, H12, H13, S1, S0, S3, S2, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem sound_body (t : Fin cfg0.N) :
    bodyPre m c t ⊢ wp frame (wpE (defs₀ (F := Ideal)) Variants.none c none) Set.univ (bodyAt0 t) (fun _ => bodyPost m c t) := by
  have hN : t.val < 53 := lt_of_lt_of_eq t.isLt (show cfg0.N = 53 from N_0)
  by_cases h1 : t.val % 2 = 0
  · by_cases hz : t.val = 0
    · exact sound_first m c t hz
    · exact sound_even m c t (by omega) h1
  · exact sound_odd m c t h1

theorem defs₀_row (t : Fin cfg0.N) : defs₀ (F := Ideal) .tc cfg0.body (cfg0.bodyArgs t (cfg0.slots t)) = bodyAt0 t := by
  unfold defs₀
  rw [Defs.onTc_tc]

theorem body_obligation : BodyObligation (dats m 0 c) (defs₀ (F := Ideal)) Variants.none () Set.univ := fun t => by
  rw [bigSep_W0, bigSep_W0, defs₀_row]
  exact triple_restated (sound_body m c t) rfl .rfl fun _ => .rfl

theorem hin : Pipeline.ΦA spec0 c ⊢ (dats m 0 c).Φ 0 := by
  rw [show (dats m 0 c).Φ 0 = Pipeline.ΦA spec0 c from rfl]

theorem hout : (dats m 0 c).Φ (Fin.last cfg0.N) ⊢ Pipeline.ΦA spec0 c := by
  have hN : cfg0.N = 53 := N_0
  rw [show (dats m 0 c).Φ (Fin.last cfg0.N) = inv m c (52 + 1) from (congrArg (inv m c) hN : inv m c cfg0.N = _), inv_even m c 52 (by decide), PhiA0_eq]
  unfold carried
  iintro ⟨⟨S0, S1, S2, S3, S4, S5⟩, Hg⟩
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hg

set_option backward.isDefEq.respectTransparency.types false in
/-- The run: every array ends at what the pipeline writes back, and every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun c => A_eq m c) (hin := fun c => hin m c) (hout := fun c => hout m c)

end Cert.ProjectIdeal.Val
-- ==== Proof.Project.Arrays.lean ====
/-
  What the six arrays of the projection hold at the end, as functions of its arguments: row by row for the codes, the
  heads and the scales of keys and values, and lane by lane for the scales of the rows.
-/
module

public import proofs.«01_k».proof.Proof.Project.Flow
public import Idealize.ShloMosaic.Lib.Pipeline.ValueKit

@[expose] public section

set_option maxRecDepth 16384

noncomputable section

namespace Cert.ProjectIdeal.Val

open Idealize.ShloMosaic Idealize.ShloMosaic.TcCoe Idealize.ShloMosaic.Tactic
open Idealize.ShloMosaic.Pipeline (Dat Cfg Window)
open Cert.Body Cert.Math
open Cert.ProjectIdeal.Gen

/-! ## The results as functions of the arguments -/

section Results

variable (X : Vec Ideal S13056x5376 .bf16) (g : Vec Ideal S1x5376 .f32) (w : Vec Ideal S5376x2048 .fp8e4m3) (s : Vec Ideal S1x2048 .f32)
variable (gq gk : Vec Ideal S1x128 .f32) (cs sn : Vec Ideal S13056x64 .f32)

/-- The codes of a row: of its root mean square norm. -/
abbrev codeR (i : Fin 13056) : Fin 5376 → EReal := code (norm nModel (row X i) (row g 0))
/-- The scale of a row. -/
abbrev scaleR (i : Fin 13056) : EReal := scale (top (norm nModel (row X i) (row g 0)))
/-- The scaled products of a row with the weights. -/
abbrev qkvR (i : Fin 13056) : Fin 2048 → EReal := qkvRow (codeR X g i) (fun _ => scaleR X g i) (row w) (row s 0)
/-- The queries of a row, -/
abbrev qR (i : Fin 13056) : Fin 1024 → EReal := qRow (qkvR X g w s i) (row gq 0) (row cs i) (row sn i)
/-- the codes of its keys, -/
abbrev kR (i : Fin 13056) : Fin 512 → EReal := kRow (qkvR X g w s i) (row gk 0) (row cs i) (row sn i)
/-- the codes of its values, -/
abbrev vR (i : Fin 13056) : Fin 512 → EReal := vRow (qkvR X g w s i)
/-- and the scales of both. -/
abbrev scR (i : Fin 13056) : Fin 128 → EReal := scRow (qkvR X g w s i) (row gk 0) (row cs i) (row sn i)
/-- The scales of the rows, 256 to a tile and 128 to a line. -/
abbrev scaleG : Vec Ideal S51x2x128 .f32 := fun j =>
  scaleR X g ⟨256 * (j 0).val + (128 * (j 1).val + (j 2).val), by
    have h0 : (j 0).val < 51 := (j 0).isLt
    have h1 : (j 1).val < 2 := (j 1).isLt
    have h2 : (j 2).val < 128 := (j 2).isLt
    omega⟩

end Results

/-! ## Where the blocks lie -/

theorem e0 : ∀ t : Fin cfg0.N, win0_0.index t = ![min t.val 50, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val - 2, 0] := (by decide +kernel : ∀ t : Fin grid0.N, _)
theorem e7 : ∀ t : Fin cfg0.N, win0_7.index t = ![t.val - 2, 0] := (by decide +kernel : ∀ t : Fin grid0.N, _)
theorem e8 : ∀ t : Fin cfg0.N, win0_8.index t = ![min t.val 50, 0] := (by decide +kernel : ∀ t : Fin grid0.N, _)
theorem e9 : ∀ t : Fin cfg0.N, win0_9.index t = ![min t.val 50, 0, 0] := (by decide +kernel : ∀ t : Fin grid0.N, _)
theorem e10 : ∀ t : Fin cfg0.N, win0_10.index t = ![t.val - 2, 0] := (by decide +kernel : ∀ t : Fin grid0.N, _)
theorem e11 : ∀ t : Fin cfg0.N, win0_11.index t = ![t.val - 2, 0] := (by decide +kernel : ∀ t : Fin grid0.N, _)
theorem e12 : ∀ t : Fin cfg0.N, win0_12.index t = ![t.val - 2, 0] := (by decide +kernel : ∀ t : Fin grid0.N, _)
theorem e13 : ∀ t : Fin cfg0.N, win0_13.index t = ![t.val - 2, 0] := (by decide +kernel : ∀ t : Fin grid0.N, _)

/-- The heads are written back from the third point on. -/
theorem late : ∀ t : Fin cfg0.N, (cfg0.win 10).flush t = true ∨ (cfg0.win 11).flush t = true ∨ (cfg0.win 12).flush t = true
    ∨ (cfg0.win 13).flush t = true → 2 ≤ t.val := (by decide +kernel : ∀ t : Fin grid0.N, _)

variable (m : (ℓ : Loc nD τ sig) → Buf (Elt Ideal) ℓ) (c : Dev nD)

/-! The arguments. -/
abbrev aX : Vec Ideal S13056x5376 .bf16 := m ((c : Thread nD τ).loc main_arg0)
abbrev aG : Vec Ideal S1x5376 .f32 := m ((c : Thread nD τ).loc main_arg1)
abbrev aW : Vec Ideal S5376x2048 .fp8e4m3 := m ((c : Thread nD τ).loc main_arg2)
abbrev aS : Vec Ideal S1x2048 .f32 := m ((c : Thread nD τ).loc main_arg3)
abbrev aGq : Vec Ideal S1x128 .f32 := m ((c : Thread nD τ).loc main_arg4)
abbrev aGk : Vec Ideal S1x128 .f32 := m ((c : Thread nD τ).loc main_arg5)
abbrev aCos : Vec Ideal S13056x64 .f32 := m ((c : Thread nD τ).loc main_arg6)
abbrev aSin : Vec Ideal S13056x64 .f32 := m ((c : Thread nD τ).loc main_arg7)

/-- A row of the block of `x` at point `t`. -/
theorem xB_row (t : Fin cfg0.N) (i : Fin 256) (n : Fin 13056) (hn : n.val = min t.val 50 * 256 + i.val) : row (xB m c t) i = row (aX m c) n := by
  funext k
  show iblk m c 0 t (ix2 i k) = _
  blk_simp [iblk, e0]
  refine congrArg (aX m c) ?_
  blk_ext [e0]
theorem gB_eq (t : Fin cfg0.N) : gB m c t = aG m c := by
  funext j
  show iblk m c 1 t j = _
  blk_simp [iblk]
  refine congrArg (aG m c) ?_
  blk_ext [e1]
theorem wB_eq (t : Fin cfg0.N) : wB m c t = aW m c := by
  funext j
  show iblk m c 2 t j = _
  blk_simp [iblk]
  refine congrArg (aW m c) ?_
  blk_ext [e2]
theorem sB_eq (t : Fin cfg0.N) : sB m c t = aS m c := by
  funext j
  show iblk m c 3 t j = _
  blk_simp [iblk]
  refine congrArg (aS m c) ?_
  blk_ext [e3]
theorem gqB_eq (t : Fin cfg0.N) : gqB m c t = aGq m c := by
  funext j
  show iblk m c 4 t j = _
  blk_simp [iblk]
  refine congrArg (aGq m c) ?_
  blk_ext [e4]
theorem gkB_eq (t : Fin cfg0.N) : gkB m c t = aGk m c := by
  funext j
  show iblk m c 5 t j = _
  blk_simp [iblk]
  refine congrArg (aGk m c) ?_
  blk_ext [e5]
theorem cosB_row (t : Fin cfg0.N) (i : Fin 256) (n : Fin 13056) (hn : n.val = (t.val - 2) * 256 + i.val) : row (cosB m c t) i = row (aCos m c) n := by
  funext k
  show iblk m c 6 t (ix2 i k) = _
  blk_simp [iblk, e6]
  refine congrArg (aCos m c) ?_
  blk_ext [e6]
theorem sinB_row (t : Fin cfg0.N) (i : Fin 256) (n : Fin 13056) (hn : n.val = (t.val - 2) * 256 + i.val) : row (sinB m c t) i = row (aSin m c) n := by
  funext k
  show iblk m c 7 t (ix2 i k) = _
  blk_simp [iblk, e7]
  refine congrArg (aSin m c) ?_
  blk_ext [e7]

/-- The codes and the scale of a row of the block at point `t`. -/
theorem codeRows_eq (t : Fin cfg0.N) (i : Fin 256) (n : Fin 13056) (hn : n.val = min t.val 50 * 256 + i.val) :
    codeRows (xB m c t) (gB m c t) i = codeR (aX m c) (aG m c) n := by
  unfold codeRows
  rw [xB_row m c t i n hn, gB_eq]
theorem scaleRows_eq (t : Fin cfg0.N) (i : Fin 256) (n : Fin 13056) (hn : n.val = min t.val 50 * 256 + i.val) :
    scaleRows (xB m c t) (gB m c t) i = scaleR (aX m c) (aG m c) n := by
  unfold scaleRows
  rw [xB_row m c t i n hn, gB_eq]

/-- The products a point from the third on works with are those of the block two points before. -/
theorem qkvAt_row (t : Fin cfg0.N) (ht : 2 ≤ t.val) (i : Fin 256) (n : Fin 13056) (hn : n.val = (t.val - 2) * 256 + i.val) :
    row (qkvAt m c t.val) i = qkvR (aX m c) (aG m c) (aW m c) (aS m c) n := by
  have hN : t.val < 53 := lt_of_lt_of_eq t.isLt (show cfg0.N = 53 from N_0)
  obtain ⟨k, hk⟩ : ∃ k, t.val = k + 2 := ⟨t.val - 2, by omega⟩
  rw [hk]
  have hp : (pt k).val = k := by show min k 52 = k; omega
  have h1 : row (codesAt m c (k + 1)) i = codeR (aX m c) (aG m c) n := codeRows_eq m c (pt k) i n (by omega)
  have h2 : row (xsAt m c (k + 1)) i = fun _ => scaleR (aX m c) (aG m c) n := funext fun _ => scaleRows_eq m c (pt k) i n (by omega)
  show qkvRow (row (codesAt m c (k + 1)) i) (row (xsAt m c (k + 1)) i) (row (wB m c (pt (k + 1)))) (row (sB m c (pt (k + 1))) 0) = _
  rw [h1, h2, wB_eq, sB_eq]

/-! ## The arrays at the end -/

theorem final8 : (dats m 0 c).arrAt 8 cfg0.N = mat (codeR (aX m c) (aG m c)) := by
  refine (dats m 0 c).arrAt_eq_of_covers 8 _ (by decide +kernel) fun t hf y => ?_
  blk_simp
  refine (congrFun (codeRows_eq m c t (y 0) (((win0_8.blk t).view.emb y) 0) (by blk_simp [e8])) (y 1)).trans ?_
  refine congrArg (codeR (aX m c) (aG m c) _) (Fin.ext ?_)
  blk_simp [e8]
theorem final9 : (dats m 0 c).arrAt 9 cfg0.N = scaleG (aX m c) (aG m c) := by
  refine (dats m 0 c).arrAt_eq_of_covers 9 _ (by decide +kernel) fun t hf y => ?_
  blk_simp
  have h0 : (y 0).val < 1 := (y 0).isLt
  refine scaleRows_eq m c t _ _ ?_
  blk_simp [e9]
  show 256 * min t.val 50 + (128 * (y 1).val + (y 2).val) = min t.val 50 * 256 + (128 * (y 1).val + (y 2).val)
  omega
theorem final10 : (dats m 0 c).arrAt 10 cfg0.N = mat (qR (aX m c) (aG m c) (aW m c) (aS m c) (aGq m c) (aCos m c) (aSin m c)) := by
  refine (dats m 0 c).arrAt_eq_of_covers 10 _ (by decide +kernel) fun t hf y => ?_
  have ht := late t (Or.inl hf)
  blk_simp
  have hn : (((win0_10.blk t).view.emb y) 0).val = (t.val - 2) * 256 + (y 0).val := by blk_simp [e10]
  show qRow (row (qkvAt m c t.val) (y 0)) (row (gqB m c t) 0) (row (cosB m c t) (y 0)) (row (sinB m c t) (y 0)) (y 1) = _
  rw [qkvAt_row m c t ht (y 0) _ hn, gqB_eq, cosB_row m c t (y 0) _ hn, sinB_row m c t (y 0) _ hn]
  refine congrArg (qR (aX m c) (aG m c) (aW m c) (aS m c) (aGq m c) (aCos m c) (aSin m c) _) (Fin.ext ?_)
  blk_simp [e10]
theorem final11 : (dats m 0 c).arrAt 11 cfg0.N = mat (kR (aX m c) (aG m c) (aW m c) (aS m c) (aGk m c) (aCos m c) (aSin m c)) := by
  refine (dats m 0 c).arrAt_eq_of_covers 11 _ (by decide +kernel) fun t hf y => ?_
  have ht := late t (Or.inr (Or.inl hf))
  blk_simp
  have hn : (((win0_11.blk t).view.emb y) 0).val = (t.val - 2) * 256 + (y 0).val := by blk_simp [e11]
  show kRow (row (qkvAt m c t.val) (y 0)) (row (gkB m c t) 0) (row (cosB m c t) (y 0)) (row (sinB m c t) (y 0)) (y 1) = _
  rw [qkvAt_row m c t ht (y 0) _ hn, gkB_eq, cosB_row m c t (y 0) _ hn, sinB_row m c t (y 0) _ hn]
  refine congrArg (kR (aX m c) (aG m c) (aW m c) (aS m c) (aGk m c) (aCos m c) (aSin m c) _) (Fin.ext ?_)
  blk_simp [e11]
theorem final12 : (dats m 0 c).arrAt 12 cfg0.N = mat (vR (aX m c) (aG m c) (aW m c) (aS m c)) := by
  refine (dats m 0 c).arrAt_eq_of_covers 12 _ (by decide +kernel) fun t hf y => ?_
  have ht := late t (Or.inr (Or.inr (Or.inl hf)))
  blk_simp
  have hn : (((win0_12.blk t).view.emb y) 0).val = (t.val - 2) * 256 + (y 0).val := by blk_simp [e12]
  show vRow (row (qkvAt m c t.val) (y 0)) (y 1) = _
  rw [qkvAt_row m c t ht (y 0) _ hn]
  refine congrArg (vR (aX m c) (aG m c) (aW m c) (aS m c) _) (Fin.ext ?_)
  blk_simp [e12]
theorem final13 : (dats m 0 c).arrAt 13 cfg0.N = mat (scR (aX m c) (aG m c) (aW m c) (aS m c) (aGk m c) (aCos m c) (aSin m c)) := by
  refine (dats m 0 c).arrAt_eq_of_covers 13 _ (by decide +kernel) fun t hf y => ?_
  have ht := late t (Or.inr (Or.inr (Or.inr hf)))
  blk_simp
  have hn : (((win0_13.blk t).view.emb y) 0).val = (t.val - 2) * 256 + (y 0).val := by blk_simp [e13]
  show scRow (row (qkvAt m c t.val) (y 0)) (row (gkB m c t) 0) (row (cosB m c t) (y 0)) (row (sinB m c t) (y 0)) (y 1) = _
  rw [qkvAt_row m c t ht (y 0) _ hn, gkB_eq, cosB_row m c t (y 0) _ hn, sinB_row m c t (y 0) _ hn]
  refine congrArg (scR (aX m c) (aG m c) (aW m c) (aS m c) (aGk m c) (aCos m c) (aSin m c) _) (Fin.ext ?_)
  blk_simp [e13]

end Cert.ProjectIdeal.Val
-- ==== Proof.Project.Ref.lean ====
/-
  The projection's reference, entry by entry: the same row functions of its arguments.
-/
module

public import proofs.«01_k».proof.Proof.Project.Sem
public import proofs.«01_k».proof.Proof.Project.Point
public import proofs.«01_k».proof.Proof.Gen.ProjectRefIdeal.Value

@[expose] public section

set_option maxRecDepth 16384

noncomputable section

namespace Cert.ProjectRefIdeal.Val

open Idealize.ShloMosaic Idealize.ShloMosaic.TcCoe
open Cert.Math Cert.ProjectIdeal.Val
open Cert.ProjectRefIdeal Cert.ProjectRefIdeal.Gen
open Facts₀ Facts

/-- The rotation from the two halves of a row. -/
theorem rope_slices (v : Fin 128 → EReal) (c s : Fin 64 → EReal) (l : Fin 128) :
    (if h : l.val < 64 then v l * c ⟨l.val, h⟩ - v ⟨64 + l.val, by omega⟩ * s ⟨l.val, h⟩
      else v ⟨64 + (l.val - 64), by omega⟩ * c ⟨l.val - 64, by omega⟩ + v ⟨l.val - 64, by omega⟩ * s ⟨l.val - 64, by omega⟩) = rope v c s l := by
  unfold rope
  split
  · rw [show (⟨64 + l.val, by omega⟩ : Fin 128) = ⟨l.val + 64, by omega⟩ from Fin.ext (Nat.add_comm _ _)]
  · rw [show (⟨64 + (l.val - 64), by omega⟩ : Fin 128) = l from Fin.ext (by show 64 + (l.val - 64) = l.val; omega)]

/-- The scales, from the absolute maxima. -/
theorem select_apply {s : Shape} (M : FVec Ideal s .f32) (j : s.Idx) :
    select (cmpf .ogt M (broadcast s (Scalar.ofBits .f32 0x00000000#32))) (divf M (broadcast s (Scalar.ofBits .f32 0x43E00000#32))) (broadcast s (Scalar.ofBits .f32 0x3F800000#32)) j
      = scale (M j) := by
  pointwise []
  rfl

/-- The codes, from what is clipped. -/
theorem clip_apply {s : Shape} (V : FVec Ideal s .f32) (j : s.Idx) (h) :
    truncf (F := Ideal) .fp8e4m3 (minimumf (broadcast s (Scalar.ofBits .f32 0x43E00000#32)) (maximumf (broadcast s (Scalar.ofBits .f32 0xC3E00000#32)) V)) h j = clip (V j) := rfl

theorem normed_apply (X : Vec Ideal S13056x5376 .bf16) (g : Vec Ideal S1x5376 .f32) (i : Fin 13056) (k : Fin 5376) :
    k0_pay5 (F := Ideal) X g (ix2 i k) = norm nModel (row X i) (row g 0) k := by
  pointwise [k0_pay5]
  rfl

theorem scales_apply (X : Vec Ideal S13056x5376 .bf16) (g : Vec Ideal S1x5376 .f32) (i : Fin 13056) :
    k0_pay6 (F := Ideal) X g (ix2 i 0) = scale (top (norm nModel (row X i) (row g 0))) := by
  have h : (fun k => k0_pay5 (F := Ideal) X g (ix2 i k)) = norm nModel (row X i) (row g 0) := funext fun k => normed_apply X g i k
  rw [← h]
  unfold k0_pay6
  generalize k0_pay5 (F := Ideal) X g = V
  refine (select_apply (s := S13056x1) _ _).trans (congrArg scale ?_)
  pointwise []
  rfl

theorem quotient2 (V : FVec Ideal S13056x5376 .f32) (S : FVec Ideal S13056x1 .f32) (i : Fin 13056) (k : Fin 5376) :
    divf (F := Ideal) V (broadcastTo S13056x5376 S Gen.broadcasts_S13056x1_S13056x5376) (ix2 i k) = Ideal.div (V (ix2 i k)) (S (ix2 i 0)) := by
  pointwise []

theorem quotient3 (V : FVec Ideal S13056x4x128 .f32) (S : FVec Ideal S13056x4x1 .f32) (i : Fin 13056) (h : Fin 4) (l : Fin 128) :
    divf (F := Ideal) V (broadcastTo S13056x4x128 S Gen.broadcasts_S13056x4x1_S13056x4x128) (ix3 i h l) = Ideal.div (V (ix3 i h l)) (S (ix3 i h 0)) := by
  pointwise []

theorem codes_apply (X : Vec Ideal S13056x5376 .bf16) (g : Vec Ideal S1x5376 .f32) (i : Fin 13056) (k : Fin 5376) :
    k0_pay7 (F := Ideal) X g (ix2 i k) = code (norm nModel (row X i) (row g 0)) k := by
  have e1 : k0_pay7 (F := Ideal) X g (ix2 i k) = clip (divf (F := Ideal) (k0_pay5 X g) (broadcastTo S13056x5376 (k0_pay6 X g) Gen.broadcasts_S13056x1_S13056x5376) (ix2 i k)) :=
    clip_apply _ (ix2 i k) Gen.bitsLt_fp8e4m3_f32
  rw [e1, quotient2, normed_apply, scales_apply]
  unfold code
  rfl

theorem lanes_apply (X : Vec Ideal S13056x5376 .bf16) (g : Vec Ideal S1x5376 .f32) (a : Fin 51) (b : Fin 2) (l : Fin 128) (n : Fin 13056) (hn : n.val = 256 * a.val + (128 * b.val + l.val)) :
    k0_pay8 (F := Ideal) X g (ix3 a b l) = scale (top (norm nModel (row X n) (row g 0))) := by
  rw [← scales_apply]
  pointwise [k0_pay8]
  exact congrArg (fun n => k0_pay6 (F := Ideal) X g (ix2 n 0)) (Fin.ext (by rw [hn]; show a.val * 256 + b.val * 128 + l.val = _; omega))

theorem products_apply (X : Vec Ideal S13056x5376 .bf16) (g : Vec Ideal S1x5376 .f32) (w : Vec Ideal S5376x2048 .fp8e4m3) (i : Fin 13056) (n : Fin 2048) :
    k0_pay9 (F := Ideal) X g w (ix2 i n) = (∑ k : Fin 5376, code (norm nModel (row X i) (row g 0)) k * w (ix2 k n) : EReal) := by
  unfold k0_pay9
  refine (Ideal.matmul_plain_apply (M := 13056) (K := 5376) (N := 2048) none (k0_pay7 (F := Ideal) X g) w _ i n).trans ?_
  have hz : (constant (F := Ideal) S13056x2048 .f32 0x00000000#32 (ix2 i n) : EReal) = 0 := by pointwise []
  refine (congrArg (fun z : EReal => z + _) hz).trans ((zero_add _).trans ?_)
  exact Finset.sum_congr rfl fun k _ => congrArg (· * w (ix2 k n)) (codes_apply X g i k)

theorem heads_apply (s : FVec Ideal S13056x1 .f32) (z : FVec Ideal S13056x2048 .f32) (t : Vec Ideal S1x2048 .f32) (i : Fin 13056) (h : Fin 16) (l : Fin 128) :
    k0_pay10 (F := Ideal) s z t (ix3 i h l) = (z (ix2 i ⟨h.val * 128 + l.val, by omega⟩) * (s (ix2 i 0) * t (ix2 0 ⟨h.val * 128 + l.val, by omega⟩)) : EReal) := by
  pointwise [k0_pay10]

theorem queries_apply (s : FVec Ideal S13056x1 .f32) (z : FVec Ideal S13056x2048 .f32) (t : Vec Ideal S1x2048 .f32) (cs sn : Vec Ideal S13056x64 .f32) (g : Vec Ideal S1x128 .f32)
    (i : Fin 13056) (h : Fin 8) (l : Fin 128) : k0_pay13 (F := Ideal) s z t cs sn g (ix3 i h l)
      = rope (norm nHead (fun l => k0_pay10 (F := Ideal) s z t (ix3 i ⟨h.val, by omega⟩ l)) (row g 0)) (row cs i) (row sn i) l := by
  unfold k0_pay13
  generalize k0_pay10 (F := Ideal) s z t = Z
  pointwise [k0_pay11, k0_pay12]
  exact rope_slices (norm nHead (fun l => Z (ix3 i ⟨h.val, by omega⟩ l)) (row g 0)) (row cs i) (row sn i) l

theorem keys_apply (s : FVec Ideal S13056x1 .f32) (z : FVec Ideal S13056x2048 .f32) (t : Vec Ideal S1x2048 .f32) (cs sn : Vec Ideal S13056x64 .f32) (g : Vec Ideal S1x128 .f32)
    (i : Fin 13056) (h : Fin 4) (l : Fin 128) : k0_pay17 (F := Ideal) (k0_pay11 cs) (k0_pay12 sn) (k0_pay14 s z t) (k0_pay15 g) (k0_pay16 s z t) (ix3 i h l)
      = rope (norm nHead (fun l => k0_pay10 (F := Ideal) s z t (ix3 i ⟨8 + h.val, by omega⟩ l)) (row g 0)) (row cs i) (row sn i) l := by
  unfold k0_pay17 k0_pay16 k0_pay14
  generalize k0_pay10 (F := Ideal) s z t = Z
  pointwise [k0_pay11, k0_pay12, k0_pay15]
  exact rope_slices (norm nHead (fun l => Z (ix3 i ⟨8 + h.val, by omega⟩ l)) (row g 0)) (row cs i) (row sn i) l

theorem keyScales_apply (a b : FVec Ideal S13056x1x64 .f32) (x : FVec Ideal S13056x4x128 .f32) (g : FVec Ideal S1x1x128 .f32) (y : FVec Ideal S13056x4x1 .f32)
    (i : Fin 13056) (h : Fin 4) : k0_pay18 (F := Ideal) a b x g y (ix3 i h 0) = scale (top fun l => k0_pay17 (F := Ideal) a b x g y (ix3 i h l)) := by
  unfold k0_pay18
  generalize k0_pay17 (F := Ideal) a b x g y = V
  refine (select_apply (s := S13056x4x1) _ _).trans (congrArg scale ?_)
  pointwise []
  rfl

theorem keyCodes_apply (a b : FVec Ideal S13056x1x64 .f32) (x : FVec Ideal S13056x4x128 .f32) (g : FVec Ideal S1x1x128 .f32) (y : FVec Ideal S13056x4x1 .f32)
    (i : Fin 13056) (h : Fin 4) (l : Fin 128) : k0_pay19 (F := Ideal) a b x g y (ix3 i h l) = code (fun l => k0_pay17 (F := Ideal) a b x g y (ix3 i h l)) l := by
  have e1 : k0_pay19 (F := Ideal) a b x g y (ix3 i h l)
      = clip (divf (F := Ideal) (k0_pay17 a b x g y) (broadcastTo S13056x4x128 (k0_pay18 a b x g y) Gen.broadcasts_S13056x4x1_S13056x4x128) (ix3 i h l)) :=
    clip_apply _ (ix3 i h l) Gen.bitsLt_fp8e4m3_f32
  rw [e1, quotient3, keyScales_apply]
  unfold code
  rfl

theorem valueScales_apply (Z : FVec Ideal S13056x16x128 .f32) (i : Fin 13056) (h : Fin 4) :
    k0_pay21 (F := Ideal) Z (ix3 i h 0) = scale (top fun l => Z (ix3 i ⟨12 + h.val, by omega⟩ l)) := by
  unfold k0_pay21
  refine (select_apply (s := S13056x4x1) _ _).trans (congrArg scale ?_)
  pointwise [k0_pay20]
  rfl

theorem valueOut_apply (v : FVec Ideal S13056x4x128 .f32) (i : Fin 13056) (n : Fin 512) :
    k0_pay3 (F := Ideal) v (Scalar.ofBits .f32 0xC3E00000#32) (ix2 i n) = clip (v (ix3 i ⟨n.val / 128, by omega⟩ ⟨n.val % 128, by omega⟩)) := by
  have e0 : ∀ W : FVec Ideal S13056x4x128 .fp8e4m3, shapeCast S13056x512 W Gen.shapeCasts_S13056x4x128_S13056x512 (ix2 i n) = W (ix3 i ⟨n.val / 128, by omega⟩ ⟨n.val % 128, by omega⟩) := fun W => by
    pointwise []
  exact (e0 _).trans (clip_apply v _ Gen.bitsLt_fp8e4m3_f32)

theorem values_apply (Z : FVec Ideal S13056x16x128 .f32) (i : Fin 13056) (h : Fin 4) (l : Fin 128) :
    k0_pay20 (F := Ideal) Z (ix3 i h l) = Z (ix3 i ⟨12 + h.val, by omega⟩ l) := by
  pointwise [k0_pay20]

theorem valueCodes_apply (Z : FVec Ideal S13056x16x128 .f32) (i : Fin 13056) (h : Fin 4) (l : Fin 128) :
    clip (k0_pay22 (F := Ideal) Z (ix3 i h l)) = code (fun l => Z (ix3 i ⟨12 + h.val, by omega⟩ l)) l := by
  have e1 : k0_pay22 (F := Ideal) Z (ix3 i h l) = divf (F := Ideal) (k0_pay20 Z) (broadcastTo S13056x4x128 (k0_pay21 Z) Gen.broadcasts_S13056x4x1_S13056x4x128) (ix3 i h l) := rfl
  rw [e1, quotient3, valueScales_apply, values_apply]
  unfold code
  rfl

theorem queryOut_apply (v : FVec Ideal S13056x8x128 .f32) (i : Fin 13056) (n : Fin 1024) :
    k0_pay1 (F := Ideal) v (ix2 i n) = v (ix3 i ⟨n.val / 128, by omega⟩ ⟨n.val % 128, by omega⟩) := by
  pointwise [k0_pay1]

theorem keyOut_apply (v : FVec Ideal S13056x4x128 .fp8e4m3) (i : Fin 13056) (n : Fin 512) :
    k0_pay2 (F := Ideal) v (ix2 i n) = v (ix3 i ⟨n.val / 128, by omega⟩ ⟨n.val % 128, by omega⟩) := by
  pointwise [k0_pay2]

theorem scalesOut_apply (a b : FVec Ideal S13056x4x1 .f32) (i : Fin 13056) (l : Fin 128) :
    k0_pay4 (F := Ideal) a b (ix2 i l) = (if h : l.val < 4 then a (ix3 i ⟨l.val, h⟩ 0) else if h : l.val < 8 then b (ix3 i ⟨l.val - 4, by omega⟩ 0) else 0 : EReal) := by
  pointwise [k0_pay4]
  by_cases h4 : l.val < 4
  · rw [dif_pos h4, dif_pos h4]
  · rw [dif_neg h4, dif_neg h4]
    by_cases h8 : l.val < 8
    · rw [dif_pos h8, dif_pos (by omega)]
    · rw [dif_neg h8, dif_neg (by omega)]

/-! ## The six results, row by row -/

section Rows

variable (a0 : Vec Ideal S13056x5376 .bf16) (a1 : Vec Ideal S1x5376 .f32) (a2 : Vec Ideal S5376x2048 .fp8e4m3) (a3 : Vec Ideal S1x2048 .f32) (a4 a5 : Vec Ideal S1x128 .f32) (a6 a7 : Vec Ideal S13056x64 .f32)

/-- The scaled products of a row. -/
abbrev zRow (i : Fin 13056) : Fin 2048 → EReal := qkvRow (code (norm nModel (row a0 i) (row a1 0))) (fun _ => scale (top (norm nModel (row a0 i) (row a1 0)))) (row a2) (row a3 0)

theorem pay23_eq : k0_pay23 (F := Ideal) a0 a1 a2 a3 a4 a5 a6 a7 = k0_pay6 a0 a1 := by
  unfold k0_pay23
  rw [View.ld_unit_zero (S := S13056x5376) Value.hz0 _ a0, View.ld_unit_zero (S := S1x5376) Value.hz1 _ a1]
theorem pay24_eq : k0_pay24 (F := Ideal) a0 a1 a2 a3 a4 a5 a6 a7 = k0_pay9 a0 a1 a2 := by
  unfold k0_pay24
  rw [View.ld_unit_zero (S := S13056x5376) Value.hz0 _ a0, View.ld_unit_zero (S := S1x5376) Value.hz1 _ a1, View.ld_unit_zero (S := S5376x2048) Value.hz2 _ a2]
theorem pay25_eq : k0_pay25 (F := Ideal) a0 a1 a2 a3 a4 a5 a6 a7 = k0_pay10 (k0_pay6 a0 a1) (k0_pay9 a0 a1 a2) a3 := by
  unfold k0_pay25
  rw [pay23_eq, pay24_eq, View.ld_unit_zero (S := S1x2048) Value.hz3 _ a3]
theorem pay26_eq : k0_pay26 (F := Ideal) a0 a1 a2 a3 a4 a5 a6 a7 = k0_pay11 a6 := by
  unfold k0_pay26
  rw [View.ld_unit_zero (S := S13056x64) Value.hz6 _ a6]
theorem pay27_eq : k0_pay27 (F := Ideal) a0 a1 a2 a3 a4 a5 a6 a7 = k0_pay12 a7 := by
  unfold k0_pay27
  rw [View.ld_unit_zero (S := S13056x64) Value.hz7 _ a7]
theorem pay28_eq : k0_pay28 (F := Ideal) a0 a1 a2 a3 a4 a5 a6 a7 = k0_pay14 (k0_pay6 a0 a1) (k0_pay9 a0 a1 a2) a3 := by
  unfold k0_pay28
  rw [pay23_eq, pay24_eq, View.ld_unit_zero (S := S1x2048) Value.hz3 _ a3]
theorem pay29_eq : k0_pay29 (F := Ideal) a0 a1 a2 a3 a4 a5 a6 a7 = k0_pay15 a5 := by
  unfold k0_pay29
  rw [View.ld_unit_zero (S := S1x128) Value.hz5 _ a5]
theorem pay30_eq : k0_pay30 (F := Ideal) a0 a1 a2 a3 a4 a5 a6 a7 = k0_pay16 (k0_pay6 a0 a1) (k0_pay9 a0 a1 a2) a3 := by
  unfold k0_pay30
  rw [pay23_eq, pay24_eq, View.ld_unit_zero (S := S1x2048) Value.hz3 _ a3]

theorem z_apply (i : Fin 13056) (h : Fin 16) (l : Fin 128) :
    k0_pay10 (F := Ideal) (k0_pay6 a0 a1) (k0_pay9 a0 a1 a2) a3 (ix3 i h l) = zRow a0 a1 a2 a3 i ⟨h.val * 128 + l.val, by omega⟩ := by
  rw [heads_apply, products_apply, scales_apply]
  unfold zRow qkvRow
  rfl

/-- A head of a row is 128 entries of its products. -/
theorem z_part (i : Fin 13056) (h : Fin 16) (o : ℕ) (ho : o + 128 ≤ 2048) (e : h.val * 128 = o) :
    (fun l => k0_pay10 (F := Ideal) (k0_pay6 a0 a1) (k0_pay9 a0 a1 a2) a3 (ix3 i h l)) = part (zRow a0 a1 a2 a3 i) o ho := by
  funext l
  rw [z_apply]
  unfold part
  exact congrArg (zRow a0 a1 a2 a3 i) (Fin.ext (by show h.val * 128 + l.val = o + l.val; rw [e]))

theorem k_head (i : Fin 13056) (h : Fin 4) :
    (fun l => k0_pay17 (F := Ideal) (k0_pay11 a6) (k0_pay12 a7) (k0_pay14 (k0_pay6 a0 a1) (k0_pay9 a0 a1 a2) a3) (k0_pay15 a5) (k0_pay16 (k0_pay6 a0 a1) (k0_pay9 a0 a1 a2) a3) (ix3 i h l))
      = kHead (zRow a0 a1 a2 a3 i) (row a5 0) (row a6 i) (row a7 i) h.val h.isLt := by
  funext l
  rw [keys_apply, z_part a0 a1 a2 a3 i ⟨8 + h.val, by omega⟩ (1024 + 128 * h.val) (by omega) (by show (8 + h.val) * 128 = _; omega)]
  unfold kHead
  rfl

theorem v_head (i : Fin 13056) (h : Fin 4) :
    (fun l => k0_pay10 (F := Ideal) (k0_pay6 a0 a1) (k0_pay9 a0 a1 a2) a3 (ix3 i ⟨12 + h.val, by omega⟩ l)) = vHead (zRow a0 a1 a2 a3 i) h.val h.isLt := by
  rw [z_part a0 a1 a2 a3 i ⟨12 + h.val, by omega⟩ (1536 + 128 * h.val) (by omega) (by show (12 + h.val) * 128 = _; omega)]
  unfold vHead
  rfl

theorem ext2 {R C : ℕ} {x : (⟨2, ![R, C]⟩ : Shape).Idx → EReal} {f : Fin R → Fin C → EReal} (h : ∀ i n, x (ix2 i n) = f i n) : x = mat f := by
  funext z
  rw [eta2 z]
  exact h (z 0) (z 1)

theorem G8_eq : Value.G8 (F := Ideal) a0 a1 a2 a3 a4 a5 a6 a7 = mat fun i => code (norm nModel (row a0 i) (row a1 0)) := by
  funext z
  rw [eta2 z]
  exact codes_apply a0 a1 _ _

theorem G9_eq (a : Fin 51) (b : Fin 2) (l : Fin 128) (n : Fin 13056) (hn : n.val = 256 * a.val + (128 * b.val + l.val)) :
    Value.G9 (F := Ideal) a0 a1 a2 a3 a4 a5 a6 a7 (ix3 a b l) = scale (top (norm nModel (row a0 n) (row a1 0))) :=
  lanes_apply a0 a1 a b l n hn

theorem G10_eq : Value.G10 (F := Ideal) a0 a1 a2 a3 a4 a5 a6 a7 = mat fun i => qRow (zRow a0 a1 a2 a3 i) (row a4 0) (row a6 i) (row a7 i) := by
  refine ext2 fun i n => ?_
  unfold Value.G10
  rw [pay23_eq, pay24_eq, queryOut_apply, queries_apply, z_part a0 a1 a2 a3 i ⟨n.val / 128, by omega⟩ (128 * (n.val / 128)) (by omega) (by show n.val / 128 * 128 = _; omega)]
  unfold qRow
  rfl

theorem G11_eq : Value.G11 (F := Ideal) a0 a1 a2 a3 a4 a5 a6 a7 = mat fun i => kRow (zRow a0 a1 a2 a3 i) (row a5 0) (row a6 i) (row a7 i) := by
  refine ext2 fun i n => ?_
  unfold Value.G11
  rw [pay26_eq, pay27_eq, pay28_eq, pay29_eq, pay30_eq, keyOut_apply, keyCodes_apply, k_head]
  unfold kRow
  rfl

theorem G12_eq : Value.G12 (F := Ideal) a0 a1 a2 a3 a4 a5 a6 a7 = mat fun i => vRow (zRow a0 a1 a2 a3 i) := by
  refine ext2 fun i n => ?_
  unfold Value.G12
  rw [pay25_eq, valueOut_apply, valueCodes_apply, v_head]
  unfold vRow
  rfl

theorem G13_eq : Value.G13 (F := Ideal) a0 a1 a2 a3 a4 a5 a6 a7 = mat fun i => scRow (zRow a0 a1 a2 a3 i) (row a5 0) (row a6 i) (row a7 i) := by
  refine ext2 fun i l => ?_
  unfold Value.G13
  rw [pay25_eq, pay26_eq, pay27_eq, pay28_eq, pay29_eq, pay30_eq, scalesOut_apply]
  unfold scRow
  refine dite_congr rfl (fun h => ?_) fun h => dite_congr rfl (fun h' => ?_) fun _ => rfl
  · rw [keyScales_apply, k_head]
  · rw [valueScales_apply, v_head]

end Rows

end Cert.ProjectRefIdeal.Val
-- ==== Proof.Project.Claim.lean ====
/-
  The first call and its reference end with the same six arrays: the codes and scales of the normalised rows, the rotated
  queries, the key codes, the value codes and the key and value scales.
-/
module

public import proofs.«01_k».proof.Defs
public import proofs.«01_k».proof.Proof.Project.Arrays
public import proofs.«01_k».proof.Proof.Project.Ref

@[expose] public section

noncomputable section

namespace Cert.Equal.Project

open Idealize.ShloMosaic Idealize.ShloMosaic.TcCoe
open Idealize.SL.Sem
open Cert.Math Cert.ProjectIdeal.Val

section Kernel

open Cert.ProjectIdeal Cert.ProjectIdeal.Gen

variable (m : (ℓ : Loc nD τ sig) → Buf (Elt Ideal) ℓ) (ρ : Dev nD → PrngReg)

/-- What the call leaves in its results, and that it leaves its arguments. -/
theorem kernel_run : θ_run (defs (F := Ideal)) (onTc (τ := τ) (main (F := Ideal))) ⟨m, fun _ => 0, ρ⟩ (fun r => ∀ c : Dev nD,
    r.2.mem ((c.tc : Thread nD τ).loc main_v0_0) = mat (codeR (aX m c) (aG m c))
    ∧ r.2.mem ((c.tc : Thread nD τ).loc main_v0_1) = scaleG (aX m c) (aG m c)
    ∧ r.2.mem ((c.tc : Thread nD τ).loc main_v0_2) = mat (qR (aX m c) (aG m c) (aW m c) (aS m c) (aGq m c) (aCos m c) (aSin m c))
    ∧ r.2.mem ((c.tc : Thread nD τ).loc main_v0_3) = mat (kR (aX m c) (aG m c) (aW m c) (aS m c) (aGk m c) (aCos m c) (aSin m c))
    ∧ r.2.mem ((c.tc : Thread nD τ).loc main_v0_4) = mat (vR (aX m c) (aG m c) (aW m c) (aS m c))
    ∧ r.2.mem ((c.tc : Thread nD τ).loc main_v0_5) = mat (scR (aX m c) (aG m c) (aW m c) (aS m c) (aGk m c) (aCos m c) (aSin m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) := by
  have h := (θ_run (defs (F := Ideal)) _ _).mono (fun _ h => h.1) (Cert.ProjectIdeal.Val.run_main_quiescent m ρ)
  have k := frame_of m ρ (Cert.ProjectIdeal.Val.dats m) (fun c => Cert.ProjectIdeal.Val.A_eq m c) h
  exact (θ_run (defs (F := Ideal)) _ _).mono (fun r ⟨h, k⟩ c =>
    ⟨((h c).1 8).trans (final8 m c), ((h c).1 9).trans (final9 m c), ((h c).1 10).trans (final10 m c),
      ((h c).1 11).trans (final11 m c), ((h c).1 12).trans (final12 m c), ((h c).1 13).trans (final13 m c), k c⟩) (θ_run_and h k)

end Kernel

/-- The scales of the reference, read as the call lays them out. -/
theorem scales_eq (a0 : Vec Ideal Cert.ProjectIdeal.S13056x5376 .bf16) (a1 : Vec Ideal Cert.ProjectIdeal.S1x5376 .f32) (a2 : Vec Ideal Cert.ProjectIdeal.S5376x2048 .fp8e4m3) (a3 : Vec Ideal Cert.ProjectIdeal.S1x2048 .f32)
    (a4 a5 : Vec Ideal Cert.ProjectIdeal.S1x128 .f32) (a6 a7 : Vec Ideal Cert.ProjectIdeal.S13056x64 .f32) :
    Cert.ProjectRefIdeal.Value.G9 (F := Ideal) a0 a1 a2 a3 a4 a5 a6 a7 = scaleG a0 a1 := by
  funext z
  rw [eta3 z]
  exact Cert.ProjectRefIdeal.Val.G9_eq a0 a1 a2 a3 a4 a5 a6 a7 (z 0) (z 1) (z 2) _ rfl

/-- The call and its reference, from equal arguments, end with equal results. -/
theorem algebraic : Cert.algebraic_ProjectIdeal_ProjectRefIdeal (hProjectIdeal := Cert.ProjectIdeal.Gen.facts) (hProjectRefIdeal := Cert.ProjectRefIdeal.Gen.facts) := by
  intro m g m' g' _ e
  refine ⟨_, _, _, _, _, _, kernel_run m g, ?_⟩
  refine (θ_run (Cert.ProjectRefIdeal.defs (F := Ideal)) _ _).mono (fun r h c => ?_) (Cert.ProjectRefIdeal.Value.run m' g')
  obtain ⟨h0, h1, h2, h3, h4, h5, h⟩ := h c
  obtain ⟨e0, e1, e2, e3, e4, e5, e6, e7⟩ := e c
  rw [e0, e1, e2, e3, e4, e5, e6, e7] at h0 h1 h2 h3 h4 h5
  exact ⟨h0.trans (Cert.ProjectRefIdeal.Val.G8_eq _ _ _ _ _ _ _ _), h1.trans (scales_eq _ _ _ _ _ _ _ _),
    h2.trans (Cert.ProjectRefIdeal.Val.G10_eq _ _ _ _ _ _ _ _), h3.trans (Cert.ProjectRefIdeal.Val.G11_eq _ _ _ _ _ _ _ _),
    h4.trans (Cert.ProjectRefIdeal.Val.G12_eq _ _ _ _ _ _ _ _), h5.trans (Cert.ProjectRefIdeal.Val.G13_eq _ _ _ _ _ _ _ _), h⟩

end Cert.Equal.Project
-- ==== Proof.Output.Body.lean ====
/-
  The body of the output kernel once more, with its loops: the quantising stage, the matmul stage and the norm stage as
  structured bodies (`Cert.Body.Act`) over the eleven buffers by the roles they play at a grid point.
-/
module

public import proofs.«01_k».proof.OutputIdeal
public import proofs.«01_k».proof.Proof.Act

@[expose] public section

noncomputable section

namespace Cert.OutputIdeal.Val

open Idealize.ShloMosaic Idealize.ShloMosaic.TcCoe
open Idealize.SL Idealize.SL.RA Idealize.SL.BI Idealize.SL.Sem
open Cert.Body
open Facts₀ Facts

variable {F : FTy → Type} [FloatOps F] [Facts]

/-- The buffers by role. -/
inductive Bf
  | a | x | w | s | g | codesO | scalesO | o | projW | projR | xs
  deriving DecidableEq

instance : Fintype Bf where
  elems := {.a, .x, .w, .s, .g, .codesO, .scalesO, .o, .projW, .projR, .xs}
  complete j := by cases j <;> decide

abbrev Bf.sh : Bf → Shape
  | .a => S256x1024 | .x => S256x5376 | .w => S1024x5376 | .s => S1x5376 | .g => S1x5376 | .codesO => S256x1024
  | .scalesO => S1x2x128 | .o => S256x5376 | .projW => S256x5376 | .projR => S256x5376 | .xs => S256x128

abbrev Bf.el : Bf → EltTy
  | .a => .f32 | .x => .bf16 | .w => .fp8e4m3 | .s => .f32 | .g => .f32 | .codesO => .fp8e4m3
  | .scalesO => .f32 | .o => .bf16 | .projW => .f32 | .projR => .f32 | .xs => .f32

/-- The memrefs of the eleven roles, each a whole buffer. -/
structure Mem where
  ref : ∀ j : Bf, Memref sig .tc .vmem j.sh j.el
  whole : ∀ j : Bf, (ref j).IsWhole

abbrev Mem.frame (M : Mem) : Frame sig Bf := ⟨Bf.sh, Bf.el, M.ref⟩

/-- A window of a matrix lies inside it. -/
theorem inb2 {R C r c h w : ℕ} (hr : r + h ≤ R) (hc : c + w ≤ C) :
    ∀ a, (![r, c] : Fin 2 → ℕ) a + (![h, w] : Fin 2 → ℕ) a ≤ (![R, C] : Fin 2 → ℕ) a := by
  intro a
  match a with
  | ⟨0, _⟩ => exact hr
  | ⟨1, _⟩ => exact hc

/-- A window of an array of three axes lies inside it. -/
theorem inb3 {A B C a b c x y z : ℕ} (ha : a + x ≤ A) (hb : b + y ≤ B) (hc : c + z ≤ C) :
    ∀ i, (![a, b, c] : Fin 3 → ℕ) i + (![x, y, z] : Fin 3 → ℕ) i ≤ (![A, B, C] : Fin 3 → ℕ) i := by
  intro i
  match i with
  | ⟨0, _⟩ => exact ha
  | ⟨1, _⟩ => exact hb
  | ⟨2, _⟩ => exact hc

/-- A window of a matrix whose first row and height are whole words is stored row by row. -/
theorem packed2 {R C r c h w p : ℕ} (inb : ∀ a, (![r, c] : Fin 2 → ℕ) a + (![h, w] : Fin 2 → ℕ) a ≤ (![R, C] : Fin 2 → ℕ) a)
    (hr : p ∣ r) (hh : p ∣ h) : (Rect.unit (s := ⟨2, ![R, C]⟩) ![r, c] ![h, w] inb).PackedRows p :=
  .inr ⟨Nat.le_refl 2, rfl, .inl ⟨hr, hh⟩⟩

section Tiles

/-- The scale of each row, from its absolute maximum. -/
def scaleTile (t : Vec F S32x1024 .f32) : FVec F S32x1 .f32 :=
  let mx := shapeCast S32x1 (multiReduction .maximumf [1] S32 (absf t) 0xFF800000#32 reduces_S32x1024_S32 (.inl rfl) rfl) shapeCasts_S32_S32x1
  select (cmpf .ogt mx (broadcast S32x1 (Scalar.ofBits .f32 0x00000000#32)))
    (divf mx (broadcast S32x1 (Scalar.ofBits .f32 0x43E00000#32))) (broadcast S32x1 (Scalar.ofBits .f32 0x3F800000#32))

/-- The codes of rows under their scales. -/
def codeTile (t : Vec F S32x1024 .f32) : FVec F S32x1024 .fp8e4m3 :=
  truncf .fp8e4m3 (minimumf (broadcast S32x1024 (Scalar.ofBits .f32 0x43E00000#32))
    (maximumf (broadcast S32x1024 (Scalar.ofBits .f32 0xC3E00000#32))
      (mulf t (broadcastTo S32x1024 (divf (broadcast S32x1 (Scalar.ofBits .f32 0x3F800000#32)) (scaleTile t)) broadcasts_S32x1_S32x1024)))) bitsLt_fp8e4m3_f32

/-- A row of 128 scales, from a column of them. -/
def scaleLane (xs : Vec F S128x128 .f32) : FVec F S1x1x128 .f32 :=
  shapeCast S1x1x128 (extractStridedSlice S1x128 ![0, 0] (transpose S128x128 [1, 0] xs transposes_S128x128_p1_0_S128x128) slices_S128x128_o0_0_S1x128) shapeCasts_S1x128_S1x1x128

/-- The reciprocal root of the mean square of each row. -/
def invRow (ssq : FVec F S16x256 .f32) : FVec F S16x1 .f32 :=
  divf (broadcast S16x1 (Scalar.ofBits .f32 0x3F800000#32))
    (sqrt (addf (divf (shapeCast S16x1 (multiReduction .add [1] S16 ssq 0x00000000#32 reduces_S16x256_S16 (.inl rfl) rfl) shapeCasts_S16_S16x1)
      (broadcast S16x1 (Scalar.ofBits .f32 0x45A80000#32))) (broadcast S16x1 (Scalar.ofBits .f32 0x358637BD#32))))

/-- The residual plus the normalised products. -/
def outTile (inv : FVec F S16x1 .f32) (p : Vec F S16x256 .f32) (g : Vec F S1x256 .f32) (x : Vec F S16x256 .bf16) : FVec F S16x256 .bf16 :=
  truncf .bf16 (addf (extf .f32 x bitsLt_bf16_f32) (mulf (mulf p (broadcastTo S16x256 inv broadcasts_S16x1_S16x256))
    (broadcastTo S16x256 g broadcasts_S1x256_S16x256))) bitsLt_bf16_f32

end Tiles

variable (U : Type) [URA U] (c : Dev nD) (M : Mem)

local notation "𝔸" => Act (nD := nD) (τ := τ) (Val := Elt F) U (defs₀ (F := F)) c (Mem.frame M)

/-- A load of a window. -/
def ld (j : Bf) (off size : Fin j.sh.rank → ℕ) (hp : 0 < (⟨j.sh.rank, size⟩ : Shape).numel) (inb : ∀ a, off a + size a ≤ j.sh.size a) :
    𝔸 (Vec F ⟨j.sh.rank, size⟩ j.el) :=
  Act.load (M := M.frame) j off size inb (View.loadsAt_vmem hp)

/-- A store of a window of a buffer of words. -/
def st (j : Bf) (off size : Fin j.sh.rank → ℕ) (hp : 0 < (⟨j.sh.rank, size⟩ : Shape).numel) (inb : ∀ a, off a + size a ≤ j.sh.size a)
    (hb : j.el.bits = 32) (w : Vec F ⟨j.sh.rank, size⟩ j.el) : 𝔸 PUnit :=
  Act.store (M := M.frame) j off size inb (View.stores_vmem_bits_univ hp hb) w

/-- A store of a window of whole words of a buffer of narrower elements. -/
def stp (j : Bf) (off size : Fin j.sh.rank → ℕ) (hp : 0 < (⟨j.sh.rank, size⟩ : Shape).numel) (inb : ∀ a, off a + size a ≤ j.sh.size a)
    (hr : (Rect.unit (s := j.sh) off size inb).PackedRows j.el.packing) (w : Vec F ⟨j.sh.rank, size⟩ j.el) : 𝔸 PUnit :=
  Act.store (M := M.frame) j off size inb (View.stores_vmem hp ((M.whole j).storeExact_slice rfl _ hr) (fun _ => rfl)) w

/-- A row group quantised. -/
def quantRows (r : ℕ) (hr : r < 8) : 𝔸 PUnit := do
  let t : Vec F S32x1024 .f32 ← ld U c M .a ![32 * r, 0] S32x1024.size h_S32x1024 (inb2 (by omega) (by omega))
  let _ ← ld U c M .xs ![32 * r, 0] S32x128.size h_S32x128 (inb2 (by omega) (by omega))
  st U c M .xs ![32 * r, 0] S32x128.size h_S32x128 (inb2 (by omega) (by omega)) rfl
    (shapeCast S32x128 (broadcastTo S32x128 (shapeCast S32x1 (scaleTile t) shapeCasts_S32x1_S32x1) broadcasts_S32x1_S32x128) shapeCasts_S32x128_S32x128)
  let _ ← ld U c M .codesO ![32 * r, 0] S32x1024.size h_S32x1024 (inb2 (by omega) (by omega))
  stp U c M .codesO ![32 * r, 0] S32x1024.size h_S32x1024 (inb2 (by omega) (by omega)) (packed2 _ (Nat.dvd_mul_right_of_dvd (by decide) _) (by decide))
    (codeTile t)

/-- 128 scales laid along the lanes. -/
def scaleOut (r : ℕ) (hr : r < 2) : 𝔸 PUnit := do
  let y : Vec F S128x128 .f32 ← ld U c M .xs ![128 * r, 0] S128x128.size h_S128x128 (inb2 (by omega) (by omega))
  let _ ← ld U c M .scalesO ![0, r, 0] S1x1x128.size h_S1x1x128 (inb3 (by omega) (by omega) (by omega))
  st U c M .scalesO ![0, r, 0] S1x1x128.size h_S1x1x128 (inb3 (by omega) (by omega) (by omega)) rfl (scaleLane y)

/-- The quantising stage. -/
def quantStage : 𝔸 PUnit := do
  Act.loop 8 (fun r hr _ => quantRows U c M r hr) ⟨⟩
  Act.loop 2 (fun r hr _ => scaleOut U c M r hr) ⟨⟩

/-- One block of 128 columns of the products: scaled and stored. -/
def matmulCol (acc : FVec F S256x256 .f32) (n : ℕ) (hn : n < 21) (k : ℕ) (hk : k < 2) : 𝔸 PUnit := do
  let y : Vec F S256x128 .f32 ← ld U c M .xs ![0, 0] S256x128.size h_S256x128 (inb2 (by omega) (by omega))
  let t : Vec F S1x128 .f32 ← ld U c M .s ![0, 256 * n + 128 * k] S1x128.size h_S1x128 (inb2 (by omega) (by omega))
  let _ ← ld U c M .projW ![0, 256 * n + 128 * k] S256x128.size h_S256x128 (inb2 (by omega) (by omega))
  st U c M .projW ![0, 256 * n + 128 * k] S256x128.size h_S256x128 (inb2 (by omega) (by omega)) rfl
    (shapeCast S256x128 (mulf (extractStridedSlice S256x128 ![0, 128 * k] acc ⟨rfl, inb2 (by omega) (by omega)⟩)
      (mulf y (broadcastTo S256x128 t broadcasts_S1x128_S256x128))) shapeCasts_S256x128_S256x128)

/-- One strip of 256 columns: the products of the codes, scaled. -/
def matmulStrip (a : FVec F S256x1024 .fp8e4m3) (n : ℕ) (hn : n < 21) : 𝔸 PUnit := do
  let b : Vec F S1024x256 .fp8e4m3 ← ld U c M .w ![0, 256 * n] S1024x256.size h_S1024x256 (inb2 (by omega) (by omega))
  Act.loop 2 (fun k hk _ => matmulCol U c M
    (matmul dot_S256x1024_S1024x256_S256x256_1_0_0_1_n_n none a b (constant S256x256 .f32 0x00000000#32)) n hn k hk) ⟨⟩

/-- The matmul stage: the codes, read back, times the weights, scaled. -/
def matmulStage : 𝔸 PUnit := do
  let a : Vec F S256x1024 .fp8e4m3 ← ld U c M .codesO ![0, 0] S256x1024.size h_S256x1024 (inb2 (by omega) (by omega))
  Act.loop 21 (fun n hn _ => matmulStrip U c M (shapeCast S256x1024 a shapeCasts_S256x1024_S256x1024) n hn) ⟨⟩

/-- One tile of the first pass over a row group: the running squares. -/
def statTile (r : ℕ) (hr : r < 16) (k : ℕ) (hk : k < 21) (a : FVec F S16x256 .f32) : 𝔸 (FVec F S16x256 .f32) := do
  let p : Vec F S16x256 .f32 ← ld U c M .projR ![16 * r, 256 * k] S16x256.size h_S16x256 (inb2 (by omega) (by omega))
  pure (addf a (mulf p p))

/-- One tile of the second pass over a row group: the result. -/
def normTile (inv : FVec F S16x1 .f32) (r : ℕ) (hr : r < 16) (k : ℕ) (hk : k < 21) : 𝔸 PUnit := do
  let p : Vec F S16x256 .f32 ← ld U c M .projR ![16 * r, 256 * k] S16x256.size h_S16x256 (inb2 (by omega) (by omega))
  let g : Vec F S1x256 .f32 ← ld U c M .g ![0, 256 * k] S1x256.size h_S1x256 (inb2 (by omega) (by omega))
  let x : Vec F S16x256 .bf16 ← ld U c M .x ![16 * r, 256 * k] S16x256.size h_S16x256 (inb2 (by omega) (by omega))
  let _ ← ld U c M .o ![16 * r, 256 * k] S16x256.size h_S16x256 (inb2 (by omega) (by omega))
  stp U c M .o ![16 * r, 256 * k] S16x256.size h_S16x256 (inb2 (by omega) (by omega)) (packed2 _ (Nat.dvd_mul_right_of_dvd (by decide) _) (by decide))
    (outTile inv p g x)

/-- A row group normalised. -/
def normRows (r : ℕ) (hr : r < 16) : 𝔸 PUnit := do
  let a ← Act.loop 21 (fun k hk a => statTile U c M r hr k hk a) (broadcast S16x256 (Scalar.ofBits .f32 0x00000000#32) : FVec F S16x256 .f32)
  Act.loop 21 (fun k hk _ => normTile U c M (invRow a) r hr k hk) ⟨⟩

/-- The norm stage. -/
def normStage : 𝔸 PUnit := Act.loop 16 (fun r hr _ => normRows U c M r hr) ⟨⟩

end Cert.OutputIdeal.Val
-- ==== Proof.Output.Sem.lean ====
/-
  The tiles of the output kernel over the extended reals, entry by entry, and what its three stages compute as row
  functions.
-/
module

public import proofs.«01_k».proof.Proof.Output.Body
public import proofs.«01_k».proof.Proof.Math
public import proofs.«01_k».proof.Proof.Tiles
public import Idealize.ShloMosaic.Lib.MatmulPlain

@[expose] public section

noncomputable section

namespace Cert.OutputIdeal.Val

open Idealize.ShloMosaic Idealize.ShloMosaic.TcCoe
open Idealize.SL Idealize.SL.RA Idealize.SL.BI Idealize.SL.Sem
open Cert.Body Cert.Math
open Facts₀ Facts

/-- Row `i` of what a buffer holds. -/
abbrev row {R C : ℕ} (x : (⟨2, ![R, C]⟩ : Shape).Idx → EReal) (i : Fin R) : Fin C → EReal := fun k => x (ix2 i k)

/-- The scaled products of a row of codes with the weights. -/
def projRow (co : Fin 1024 → EReal) (sc : EReal) (w : Fin 1024 → Fin 5376 → EReal) (s : Fin 5376 → EReal) (n : Fin 5376) : EReal :=
  (∑ k, co k * w k n) * (sc * s n)

/-- A row of the result: the residual plus the normalised products. -/
def outRow (x p g : Fin 5376 → EReal) (n : Fin 5376) : EReal := x n + norm nModel p g n

variable [Facts]

section Reads

theorem spread_apply (t : FVec Ideal S32x1 .f32) (r : Fin 32) (l : Fin 128) :
    shapeCast S32x128 (broadcastTo S32x128 (shapeCast S32x1 t shapeCasts_S32x1_S32x1) broadcasts_S32x1_S32x128) shapeCasts_S32x128_S32x128 (ix2 r l) = t (ix2 r 0) := by
  pointwise []

theorem zeros_apply (r : Fin 16) (l : Fin 256) :
    (broadcast S16x256 (Scalar.ofBits .f32 0x00000000#32) : FVec Ideal S16x256 .f32) (ix2 r l) = (0 : EReal) := by
  pointwise []

theorem scaleTile_apply (t : FVec Ideal S32x1024 .f32) (r : Fin 32) :
    scaleTile (F := Ideal) t (ix2 r 0) = scale (top fun l => t (ix2 r l)) := by
  pointwise [scaleTile]
  rfl

theorem codeTile_apply (t : FVec Ideal S32x1024 .f32) (r : Fin 32) (l : Fin 1024) :
    codeTile (F := Ideal) t (ix2 r l) = code (fun l => t (ix2 r l)) l := by
  rw [← code_eq, ← scaleTile_apply]
  pointwise [codeTile]
  rfl

theorem scaleLane_apply (x : Vec Ideal S128x128 .f32) (l : Fin 128) :
    scaleLane (F := Ideal) x (ix3 0 0 l) = x (ix2 l 0) := by
  pointwise [scaleLane]

theorem matmulTile_apply (acc : FVec Ideal S256x256 .f32) (y : Vec Ideal S256x128 .f32) (t : Vec Ideal S1x128 .f32) (k : ℕ) (hk : k < 2)
    (h) (i : Fin 256) (j : Fin 128) :
    shapeCast S256x128 (mulf (F := Ideal) (extractStridedSlice S256x128 ![0, 128 * k] acc h) (mulf y (broadcastTo S256x128 t broadcasts_S1x128_S256x128))) shapeCasts_S256x128_S256x128 (ix2 i j)
      = (acc (ix2 i ⟨128 * k + j.val, by omega⟩) * (y (ix2 i j) * t (ix2 0 j)) : EReal) := by
  pointwise []

theorem castCodes_apply (a : FVec Ideal S256x1024 .fp8e4m3) (i : Fin 256) (k : Fin 1024) :
    shapeCast S256x1024 a shapeCasts_S256x1024_S256x1024 (ix2 i k) = a (ix2 i k) := by
  pointwise []

theorem products_apply (a : FVec Ideal S256x1024 .fp8e4m3) (b : FVec Ideal S1024x256 .fp8e4m3) (i : Fin 256) (n : Fin 256) :
    matmul (F := Ideal) dot_S256x1024_S1024x256_S256x256_1_0_0_1_n_n none a b (constant S256x256 .f32 0x00000000#32) (ix2 i n)
      = (∑ k : Fin 1024, a (ix2 i k) * b (ix2 k n) : EReal) := by
  refine (Ideal.matmul_plain_apply (M := 256) (K := 1024) (N := 256) none a b _ i n).trans ?_
  have hz : (constant (F := Ideal) S256x256 .f32 0x00000000#32 (ix2 i n) : EReal) = 0 := by pointwise []
  exact (congrArg (fun z : EReal => z + _) hz).trans (zero_add _)

theorem statSq_apply (a p : FVec Ideal S16x256 .f32) (r : Fin 16) (l : Fin 256) :
    addf (F := Ideal) a (mulf p p) (ix2 r l) = (a (ix2 r l) + p (ix2 r l) * p (ix2 r l) : EReal) := by
  pointwise []

theorem invRow_apply (s : FVec Ideal S16x256 .f32) (r : Fin 16) :
    invRow (F := Ideal) s (ix2 r 0) = Ideal.div 1 (Ideal.sqrt (Ideal.div (∑ l : Fin 256, s (ix2 r l)) nModel + eps)) := by
  pointwise [invRow]

theorem outTile_apply (inv : FVec Ideal S16x1 .f32) (p : Vec Ideal S16x256 .f32) (g : Vec Ideal S1x256 .f32) (x : Vec Ideal S16x256 .bf16) (r : Fin 16) (l : Fin 256) :
    outTile (F := Ideal) inv p g x (ix2 r l) = (x (ix2 r l) + p (ix2 r l) * inv (ix2 r 0) * g (ix2 0 l) : EReal) := by
  pointwise [outTile]

end Reads

variable (U : Type) [URA U] (c : Dev nD) {M : Mem}

local notation "𝔹" => Bufs (Elt Ideal) (Mem.frame M)

/-- The buffers other than those of `T` are as they were. -/
def Keep (T : List Bf) (b b' : 𝔹) : Prop := ∀ j, j ∉ T → b' j = b j

theorem Keep.refl (T : List Bf) (b : 𝔹) : Keep T b b := fun _ _ => rfl

theorem Keep.update {T : List Bf} {b b' : 𝔹} (h : Keep T b b') {j : Bf} (hj : j ∈ T) (x) : Keep T b (Function.update b' j x) := by
  intro i hi
  rw [Function.update_of_ne (by rintro rfl; exact hi hj)]
  exact h i hi

section Quant

/-- The codes of a row. -/
abbrev codesOf (b : 𝔹) (i : Fin 256) : Fin 1024 → EReal := code (row (b .a) i)

/-- The scale of a row. -/
abbrev scaleOf (b : 𝔹) (i : Fin 256) : EReal := scale (top (row (b .a) i))

/-- The first `n` rows quantised: their codes written, their scales kept, and nothing else touched. -/
def QuantInv (b b' : 𝔹) (n : ℕ) : Prop :=
  Keep [.codesO, .xs, .scalesO] b b'
    ∧ Agree (b' .codesO) (codesOf b) (fun i _ => i < n) ∧ Agree (b' .xs) (fun i (_ : Fin 128) => scaleOf b i) fun i _ => i < n

theorem quantRows_spec (r : ℕ) (hr : r < 8) (b b' : 𝔹) (h : QuantInv b b' (32 * r)) :
    QuantInv b ((quantRows (F := Ideal) U c M r hr).sem b').2 (32 * (r + 1)) := by
  obtain ⟨h1, h2, h3⟩ := h
  have hw : ∀ i : Fin 32, (fun l => VecWindow.window (s := S256x1024) (b' .a) ![32 * r, 0] ![32, 1024] (inb2 (by omega) (by omega)) (ix2 i l))
      = row (b .a) ⟨32 * r + i.val, by omega⟩ := by
    intro i
    funext l
    rw [window2, h1 _ (by simp)]
    unfold row
    congr 2
    apply Fin.ext
    simp
  refine ⟨(h1.update (by simp) _).update (by simp) _, ?_, ?_⟩
  · refine h2.put _ (inb2 (by omega) (by omega)) _ (fun i l => ?_) (fun x y hx hy hP => by omega)
    refine (codeTile_apply (VecWindow.window (s := S256x1024) (b' .a) ![32 * r, 0] ![32, 1024] (inb2 (by omega) (by omega))) i l).trans ?_
    rw [hw]
    refine congrArg (codesOf b _) (Fin.ext ?_)
    simp
  · refine h3.put _ (inb2 (by omega) (by omega)) _ (fun i l => (spread_apply _ i l).trans ?_) (fun x y hx hy hP => by omega)
    refine (scaleTile_apply (VecWindow.window (s := S256x1024) (b' .a) ![32 * r, 0] ![32, 1024] (inb2 (by omega) (by omega))) i).trans ?_
    rw [hw]

theorem quantStage_spec (b : 𝔹) :
    Keep [.codesO, .xs, .scalesO] b ((quantStage (F := Ideal) U c M).sem b).2
      ∧ Agree (((quantStage (F := Ideal) U c M).sem b).2 .codesO) (codesOf b) (fun _ _ => True)
      ∧ Agree (((quantStage (F := Ideal) U c M).sem b).2 .xs) (fun i (_ : Fin 128) => scaleOf b i) (fun _ _ => True)
      ∧ ∀ (i : Fin 2) (l : Fin 128), (((quantStage (F := Ideal) U c M).sem b).2 .scalesO) (ix3 0 i l) = scaleOf b ⟨128 * i.val + l.val, by omega⟩ := by
  have h := loop_spec (U := U) (fun r hr (_ : PUnit) => quantRows (F := Ideal) U c M r hr)
    (fun r _ b' => QuantInv b b' (32 * r)) (fun r hr _ b' h => quantRows_spec U c r hr b b' h) ⟨⟩ b
    ⟨Keep.refl _ b, fun _ _ h => absurd h (by omega), fun _ _ h => absurd h (by omega)⟩
  generalize hb1 : ((Act.loop 8 (fun r hr (_ : PUnit) => quantRows (F := Ideal) U c M r hr) ⟨⟩).sem b).2 = b1 at h
  have e : ((quantStage (F := Ideal) U c M).sem b).2 = ((Act.loop 2 (fun r hr (_ : PUnit) => scaleOut (F := Ideal) U c M r hr) ⟨⟩).sem b1).2 := by
    rw [← hb1]
    rfl
  rw [e]
  obtain ⟨h1, h4, h5⟩ := h
  have := loop_spec (U := U) (fun r hr (_ : PUnit) => scaleOut (F := Ideal) U c M r hr)
    (fun r _ b' => Keep [.scalesO] b1 b' ∧ ∀ (i : Fin 2) (l : Fin 128), i.val < r → (b' .scalesO) (ix3 0 i l) = scaleOf b ⟨128 * i.val + l.val, by omega⟩) ?_ ⟨⟩ b1
    ⟨Keep.refl _ b1, fun _ _ h => absurd h (by omega)⟩
  · obtain ⟨k1, k2⟩ := this
    refine ⟨fun j hj => (k1 j ?_).trans (h1 j hj), ?_, ?_, fun i l => k2 i l i.isLt⟩
    · simp only [List.mem_cons, not_or, List.not_mem_nil, not_false_eq_true, and_true] at hj ⊢
      exact hj.2.2
    · rw [k1 _ (by simp)]
      exact fun i l _ => h4 i l (by have := i.isLt; omega)
    · rw [k1 _ (by simp)]
      exact fun i l _ => h5 i l (by have := i.isLt; omega)
  · rintro r hr - b' ⟨k1, k2⟩
    refine ⟨k1.update (by simp) _, ?_⟩
    refine put3 (R := 2) (C := 128) (P := fun i => i < r) (G := fun i l => scaleOf b ⟨128 * i.val + l.val, by omega⟩) (fun i l h => k2 i l h) hr _ (fun l => ?_) (fun i => i < r + 1) (fun a ha => by omega)
    refine (scaleLane_apply (VecWindow.window (s := S256x128) (b' .xs) ![128 * r, 0] ![128, 128] (inb2 (by omega) (by omega))) l).trans ?_
    rw [window2, k1 _ (by simp), h5 _ _ (by simp only; omega)]

end Quant

section Matmul

/-- Of a block of columns: right before it, and nothing else touched. -/
def MatInv (G : Fin 256 → Fin 5376 → EReal) (b b' : 𝔹) (cols : ℕ) : Prop :=
  Keep [.projW] b b' ∧ Agree (b' .projW) G fun _ n => n < cols

theorem matmulCol_sem (acc : FVec Ideal S256x256 .f32) (n : ℕ) (hn : n < 21) (k : ℕ) (hk : k < 2) (b : 𝔹) :
    ((matmulCol (F := Ideal) U c M acc n hn k hk).sem b).2
      = Function.update b .projW (VecWindow.put (s := S256x5376) (b .projW) ![0, 256 * n + 128 * k] ![256, 128]
        (shapeCast S256x128 (mulf (F := Ideal) (extractStridedSlice S256x128 ![0, 128 * k] acc ⟨rfl, inb2 (by omega) (by omega)⟩)
          (mulf (VecWindow.window (s := S256x128) (b .xs) ![0, 0] ![256, 128] (inb2 (by omega) (by omega)))
            (broadcastTo S256x128 (VecWindow.window (s := S1x5376) (b .s) ![0, 256 * n + 128 * k] ![1, 128] (inb2 (by omega) (by omega))) broadcasts_S1x128_S256x128))) shapeCasts_S256x128_S256x128)) := rfl

theorem matmulCols_spec (co : Fin 256 → Fin 1024 → EReal) (sc : Fin 256 → EReal) (acc : FVec Ideal S256x256 .f32) (b b' : 𝔹) (n : ℕ) (hn : n < 21)
    (hx : Agree (b .xs) (fun i (_ : Fin 128) => sc i) (fun _ _ => True))
    (h : MatInv (fun i => projRow (co i) (sc i) (row (b .w)) (row (b .s) 0)) b b' (256 * n))
    (hacc : ∀ i (j : Fin 256), acc (ix2 i j) = (∑ k, co i k * row (b .w) k ⟨256 * n + j.val, by omega⟩ : EReal)) :
    MatInv (fun i => projRow (co i) (sc i) (row (b .w)) (row (b .s) 0)) b
      ((Act.loop 2 (fun k hk (_ : PUnit) => matmulCol (F := Ideal) U c M acc n hn k hk) ⟨⟩).sem b').2 (256 * (n + 1)) := by
  refine loop_spec (U := U) (fun k hk (_ : PUnit) => matmulCol (F := Ideal) U c M acc n hn k hk)
    (fun k _ b'' => MatInv (fun i => projRow (co i) (sc i) (row (b .w)) (row (b .s) 0)) b b'' (256 * n + 128 * k)) ?_ ⟨⟩ b' h
  rintro k hk - b'' ⟨h1, h2⟩
  rw [matmulCol_sem]
  refine ⟨h1.update (by simp) _, ?_⟩
  · rw [Function.update_self]
    refine h2.put _ (inb2 (by omega) (by omega)) _ (fun i l => ?_) (fun x y hx hy hP => by omega)
    refine (matmulTile_apply _ _ _ k hk _ i l).trans ?_
    rw [window2, window2, h1 _ (by simp), h1 _ (by simp), hacc, hx _ _ trivial]
    unfold projRow row
    have e0 : (⟨0 + i.val, by omega⟩ : Fin 256) = i := Fin.ext (Nat.zero_add _)
    have e1 : (⟨256 * n + (128 * k + l.val), by omega⟩ : Fin 5376) = ⟨256 * n + 128 * k + l.val, by omega⟩ := Fin.ext (by simp only; omega)
    simp only [e0, e1]
    rfl

theorem matmulStage_spec (b : 𝔹) (co : Fin 256 → Fin 1024 → EReal) (sc : Fin 256 → EReal)
    (hc : Agree (b .codesO) co (fun _ _ => True)) (hx : Agree (b .xs) (fun i (_ : Fin 128) => sc i) (fun _ _ => True)) :
    Keep [.projW] b ((matmulStage (F := Ideal) U c M).sem b).2
      ∧ Agree (((matmulStage (F := Ideal) U c M).sem b).2 .projW) (fun i => projRow (co i) (sc i) (row (b .w)) (row (b .s) 0)) fun _ _ => True := by
  have h := loop_spec (U := U) (fun n hn (_ : PUnit) => matmulStrip (F := Ideal) U c M
      (shapeCast S256x1024 (VecWindow.window (s := S256x1024) (b .codesO) ![0, 0] ![256, 1024] (inb2 (by omega) (by omega))) shapeCasts_S256x1024_S256x1024) n hn)
    (fun n _ b' => MatInv (fun i => projRow (co i) (sc i) (row (b .w)) (row (b .s) 0)) b b' (256 * n)) ?_ ⟨⟩ b ⟨fun _ _ => rfl, fun _ _ h => absurd h (by simp)⟩
  · exact ⟨h.1, fun i j _ => h.2 i j (by omega)⟩
  · rintro n hn - b' h
    refine matmulCols_spec U c co sc (matmul (F := Ideal) (φ₁ := .fp8e4m3) (φ₂ := .fp8e4m3) dot_S256x1024_S1024x256_S256x256_1_0_0_1_n_n none
      (shapeCast S256x1024 (VecWindow.window (s := S256x1024) (b .codesO) ![0, 0] ![256, 1024] (inb2 (by omega) (by omega))) shapeCasts_S256x1024_S256x1024)
      (VecWindow.window (s := S1024x5376) (b' .w) ![0, 256 * n] ![1024, 256] (inb2 (by omega) (by omega)))
      (constant S256x256 .f32 0x00000000#32)) b b' n hn hx h fun i j => ?_
    rw [products_apply]
    refine Finset.sum_congr rfl fun k _ => ?_
    rw [castCodes_apply, window2, window2, h.1 _ (by simp), hc _ _ trivial]
    unfold row
    have e0 : (⟨0 + i.val, by omega⟩ : Fin 256) = i := Fin.ext (Nat.zero_add _)
    have e1 : (⟨0 + k.val, by omega⟩ : Fin 1024) = k := Fin.ext (Nat.zero_add _)
    simp only [e0, e1]

end Matmul

section Norm

/-- What the norm stage leaves. -/
abbrev outOf (b : 𝔹) (i : Fin 256) : Fin 5376 → EReal := outRow (row (b .x) i) (row (b .projR) i) (row (b .g) 0)

/-- The running tile of the first pass after `n` tiles of columns. -/
def StatInv (b : 𝔹) (r : ℕ) (hr : r < 16) (n : ℕ) (a : FVec Ideal S16x256 .f32) : Prop :=
  ∀ (i : Fin 16) (l : Fin 256), a (ix2 i l)
      = (∑ k ∈ Finset.range n, entry (fun m => row (b .projR) ⟨16 * r + i.val, by omega⟩ m * row (b .projR) ⟨16 * r + i.val, by omega⟩ m) (256 * k + l.val) : EReal)

theorem statLoop_spec (b : 𝔹) (r : ℕ) (hr : r < 16) (z : FVec Ideal S16x256 .f32) (hz : StatInv b r hr 0 z) :
    StatInv b r hr 21 ((Act.loop 21 (fun k hk a => statTile (F := Ideal) U c M r hr k hk a) z).sem b).1
      ∧ ((Act.loop 21 (fun k hk a => statTile (F := Ideal) U c M r hr k hk a) z).sem b).2 = b := by
  refine loop_spec (U := U) (fun k hk a => statTile (F := Ideal) U c M r hr k hk a) (fun n a b' => StatInv b r hr n a ∧ b' = b) ?_ z b ⟨hz, rfl⟩
  rintro k hk a b' ⟨h1, rfl⟩
  refine ⟨fun i l => ?_, rfl⟩
  refine (statSq_apply a (VecWindow.window (s := S256x5376) (b' .projR) ![16 * r, 256 * k] ![16, 256] (inb2 (by omega) (by omega))) i l).trans ?_
  rw [Finset.sum_range_succ, h1, entry_lt _ (by omega), window2]

/-- Rows of the result written so far, and nothing else touched. -/
def NormInv (b b' : 𝔹) (P : ℕ → ℕ → Prop) : Prop := Keep [.o] b b' ∧ Agree (b' .o) (outOf b) P

theorem normTiles_spec (inv : FVec Ideal S16x1 .f32) (r : ℕ) (hr : r < 16) (b b' : 𝔹)
    (hi : ∀ i : Fin 16, inv (ix2 i 0) = Ideal.div 1 (root nModel (row (b .projR) ⟨16 * r + i.val, by omega⟩)))
    (h : NormInv b b' fun i _ => i < 16 * r) :
    NormInv b ((Act.loop 21 (fun k hk (_ : PUnit) => normTile (F := Ideal) U c M inv r hr k hk) ⟨⟩).sem b').2 (fun i _ => i < 16 * (r + 1)) := by
  have := loop_spec (U := U) (fun k hk (_ : PUnit) => normTile (F := Ideal) U c M inv r hr k hk)
    (fun k _ b'' => NormInv b b'' (fun i l => i < 16 * r ∨ (i < 16 * (r + 1) ∧ l < 256 * k))) ?_ ⟨⟩ b'
    ⟨h.1, fun i l hP => h.2 i l (by omega)⟩
  · exact ⟨this.1, fun i l hP => this.2 i l (by have := l.isLt; omega)⟩
  · rintro k hk - b'' ⟨h1, h2⟩
    refine ⟨h1.update (by simp) _, h2.put _ (inb2 (by omega) (by omega)) _ (fun i l => ?_) (fun x y hx hy hP => by omega)⟩
    refine (outTile_apply inv (VecWindow.window (s := S256x5376) (b'' .projR) ![16 * r, 256 * k] ![16, 256] (inb2 (by omega) (by omega)))
      (VecWindow.window (s := S1x5376) (b'' .g) ![0, 256 * k] ![1, 256] (inb2 (by omega) (by omega)))
      (VecWindow.window (s := S256x5376) (b'' .x) ![16 * r, 256 * k] ![16, 256] (inb2 (by omega) (by omega))) i l).trans ?_
    rw [window2, window2, window2, hi, h1 _ (by simp), h1 _ (by simp), h1 _ (by simp)]
    exact congrArg (fun z : EReal => _ + z) (norm_eq nModel_pos (row (b .projR) ⟨16 * r + i.val, by omega⟩) (row (b .g) 0) ⟨256 * k + l.val, by omega⟩)

theorem normRows_spec (r : ℕ) (hr : r < 16) (b b' : 𝔹) (h : NormInv b b' fun i _ => i < 16 * r) :
    NormInv b ((normRows (F := Ideal) U c M r hr).sem b').2 (fun i _ => i < 16 * (r + 1)) := by
  obtain ⟨hs, hb⟩ := statLoop_spec U c b' r hr (broadcast S16x256 (Scalar.ofBits .f32 0x00000000#32) : FVec Ideal S16x256 .f32) fun i l => zeros_apply i l
  generalize hst : (Act.loop 21 (fun k hk a => statTile (F := Ideal) U c M r hr k hk a) (broadcast S16x256 (Scalar.ofBits .f32 0x00000000#32) : FVec Ideal S16x256 .f32)).sem b' = st at hs hb
  have e : ((normRows (F := Ideal) U c M r hr).sem b').2
      = ((Act.loop 21 (fun k hk (_ : PUnit) => normTile (F := Ideal) U c M (invRow st.1) r hr k hk) ⟨⟩).sem st.2).2 := by
    rw [← hst]
    unfold normRows
    rw [sem_bind]
  obtain ⟨a1, b1⟩ := st
  obtain rfl : b1 = b' := hb
  have hp : b1 .projR = b .projR := h.1 _ (by simp)
  rw [e]
  refine normTiles_spec U c _ r hr b b1 (fun i => ?_) h
  refine (invRow_apply a1 i).trans ?_
  have := sum_lanes 21 256 (by norm_num) fun m => row (b1 .projR) ⟨16 * r + i.val, by omega⟩ m * row (b1 .projR) ⟨16 * r + i.val, by omega⟩ m
  rw [← hp]
  exact congrArg (fun z => Ideal.div 1 (Ideal.sqrt (Ideal.div z nModel + eps))) ((Finset.sum_congr rfl fun l _ => hs i l).trans this)

theorem normStage_spec (b : 𝔹) :
    Keep [.o] b ((normStage (F := Ideal) U c M).sem b).2
      ∧ Agree (((normStage (F := Ideal) U c M).sem b).2 .o) (outOf b) fun _ _ => True := by
  have h := loop_spec (U := U) (fun r hr (_ : PUnit) => normRows (F := Ideal) U c M r hr)
    (fun r _ b' => NormInv b b' fun i _ => i < 16 * r) (fun r hr _ b' h => normRows_spec U c r hr b b' h) ⟨⟩ b
    ⟨Keep.refl _ b, fun _ _ h => absurd h (by omega)⟩
  exact ⟨h.1, fun i j _ => h.2 i j (by have := i.isLt; omega)⟩

end Norm

end Cert.OutputIdeal.Val
-- ==== Proof.Output.Tie.lean ====
/-
  The printed body is the structured one.
-/
module

public import proofs.«01_k».proof.Proof.Output.Body
public import Idealize.ShloMosaic.Lib.Pipeline.Regions

@[expose] public section

noncomputable section

namespace Cert.OutputIdeal.Val

open Idealize.ShloMosaic Idealize.ShloMosaic.TcCoe
open Idealize.SL Idealize.SL.RA Idealize.SL.BI Idealize.SL.Sem
open Cert.Body
open Facts₀ Facts

variable {F : FTy → Type} [FloatOps F] [Facts] (U : Type) [URA U] (c : Dev nD)

variable (arg1 : Memref sig .tc .vmem S256x1024 .f32) (harg1 : arg1.IsWhole) (arg2 : Memref sig .tc .vmem S256x5376 .bf16) (harg2 : arg2.IsWhole) (arg3 : Memref sig .tc .vmem S1024x5376 .fp8e4m3) (harg3 : arg3.IsWhole) (arg4 : Memref sig .tc .vmem S1x5376 .f32) (harg4 : arg4.IsWhole) (arg5 : Memref sig .tc .vmem S1x5376 .f32) (harg5 : arg5.IsWhole) (arg6 : Memref sig .tc .vmem S256x1024 .fp8e4m3) (harg6 : arg6.IsWhole) (arg7 : Memref sig .tc .vmem S1x2x128 .f32) (harg7 : arg7.IsWhole) (arg8 : Memref sig .tc .vmem S256x5376 .bf16) (harg8 : arg8.IsWhole) (arg9 : Memref sig .tc .vmem S256x5376 .f32) (harg9 : arg9.IsWhole) (arg10 : Memref sig .tc .vmem S256x5376 .f32) (harg10 : arg10.IsWhole) (arg11 : Memref sig .tc .vmem S256x128 .f32) (harg11 : arg11.IsWhole)

/-- The buffers by role at an even point. -/
abbrev evenMem : Mem :=
  { ref := fun | .a => arg1 | .x => arg2 | .w => arg3 | .s => arg4 | .g => arg5 | .codesO => arg6 | .scalesO => arg7 | .o => arg8 | .projW => arg9 | .projR => arg10 | .xs => arg11,
    whole := fun | .a => harg1 | .x => harg2 | .w => harg3 | .s => harg4 | .g => harg5 | .codesO => harg6 | .scalesO => harg7 | .o => harg8 | .projW => harg9 | .projR => harg10 | .xs => harg11 }

/-- The buffers by role at an odd point. -/
abbrev oddMem : Mem :=
  { ref := fun | .a => arg1 | .x => arg2 | .w => arg3 | .s => arg4 | .g => arg5 | .codesO => arg6 | .scalesO => arg7 | .o => arg8 | .projW => arg10 | .projR => arg9 | .xs => arg11,
    whole := fun | .a => harg1 | .x => harg2 | .w => harg3 | .s => harg4 | .g => harg5 | .codesO => harg6 | .scalesO => harg7 | .o => harg8 | .projW => harg10 | .projR => harg9 | .xs => harg11 }

/-- At the first point the products the norm stage reads are cleared. -/
def zeroStage (M : Mem) : Act (nD := nD) (τ := τ) (Val := Elt F) U (defs₀ (F := F)) c (Mem.frame M) PUnit := do
  let _ ← ld U c M .projR ![0, 0] S256x5376.size h_S256x5376 (inb2 (by omega) (by omega))
  st U c M .projR ![0, 0] S256x5376.size h_S256x5376 (inb2 (by omega) (by omega)) rfl
    (shapeCast S256x5376 (broadcast S256x5376 (Scalar.ofBits .f32 0x00000000#32) : FVec F S256x5376 .f32) shapeCasts_S256x5376_S256x5376)

/-- A grid point's three stages. -/
def step (M : Mem) : Act (nD := nD) (τ := τ) (Val := Elt F) U (defs₀ (F := F)) c (Mem.frame M) PUnit := do
  quantStage U c M
  matmulStage U c M
  normStage U c M

/-- The first point's condition. -/
abbrev isFirst (i : grid0.Coords) : Prop :=
  Scalar.cmpi .ne (Scalar.extui (Scalar.cmpi .eq (BitVec.ofNat 32 (i 0).val) 0#32) : BitVec 32) 0#32 = 1#1

/-- The printed body at the first point: the clearing, then the stages. -/
theorem body_first (i : grid0.Coords) (h0 : isFirst i) (h1 : k0_cond2 i = 1#1) (h2 : ¬ k0_cond3 i = 1#1) :
    cc0_output_projection (F := F) i arg1 harg1 arg2 harg2 arg3 harg3 arg4 harg4 arg5 harg5 arg6 harg6 arg7 harg7 arg8 harg8 arg9 harg9 arg10 harg10 arg11 harg11
      = (Act.bind (zeroStage (F := F) U c (evenMem arg1 harg1 arg2 harg2 arg3 harg3 arg4 harg4 arg5 harg5 arg6 harg6 arg7 harg7 arg8 harg8 arg9 harg9 arg10 harg10 arg11 harg11)) fun _ => step (F := F) U c (evenMem arg1 harg1 arg2 harg2 arg3 harg3 arg4 harg4 arg5 harg5 arg6 harg6 arg7 harg7 arg8 harg8 arg9 harg9 arg10 harg10 arg11 harg11)).prog := by
  unfold cc0_output_projection
  simp only [dif_pos h0, dif_pos h1, dif_neg h2]
  chain_rfl

/-- The printed body at a later even point. -/
theorem body_even (i : grid0.Coords) (h0 : ¬ isFirst i) (h1 : k0_cond2 i = 1#1) (h2 : ¬ k0_cond3 i = 1#1) :
    cc0_output_projection (F := F) i arg1 harg1 arg2 harg2 arg3 harg3 arg4 harg4 arg5 harg5 arg6 harg6 arg7 harg7 arg8 harg8 arg9 harg9 arg10 harg10 arg11 harg11 = (step (F := F) U c (evenMem arg1 harg1 arg2 harg2 arg3 harg3 arg4 harg4 arg5 harg5 arg6 harg6 arg7 harg7 arg8 harg8 arg9 harg9 arg10 harg10 arg11 harg11)).prog := by
  unfold cc0_output_projection
  simp only [dif_neg h0, dif_pos h1, dif_neg h2]
  chain_rfl

/-- The printed body at an odd point. -/
theorem body_odd (i : grid0.Coords) (h0 : ¬ isFirst i) (h1 : ¬ k0_cond2 i = 1#1) (h2 : k0_cond3 i = 1#1) :
    cc0_output_projection (F := F) i arg1 harg1 arg2 harg2 arg3 harg3 arg4 harg4 arg5 harg5 arg6 harg6 arg7 harg7 arg8 harg8 arg9 harg9 arg10 harg10 arg11 harg11 = (step (F := F) U c (oddMem arg1 harg1 arg2 harg2 arg3 harg3 arg4 harg4 arg5 harg5 arg6 harg6 arg7 harg7 arg8 harg8 arg9 harg9 arg10 harg10 arg11 harg11)).prog := by
  unfold cc0_output_projection
  simp only [dif_neg h0, dif_neg h1, dif_pos h2]
  chain_rfl

end Cert.OutputIdeal.Val
-- ==== Proof.Output.Point.lean ====
/-
  What a grid point of the output kernel leaves in each of its eleven buffers.
-/
module

public import proofs.«01_k».proof.Proof.Output.Sem
public import proofs.«01_k».proof.Proof.Output.Tie
public import proofs.«01_k».proof.Proof.Project.Point

@[expose] public section

noncomputable section

namespace Cert.OutputIdeal.Val

open Idealize.ShloMosaic Idealize.ShloMosaic.TcCoe
open Idealize.SL Idealize.SL.RA Idealize.SL.BI Idealize.SL.Sem
open Cert.Body Cert.Math
open Cert.ProjectIdeal.Val (mat mat_apply eta2 eta3 eq_mat)
open Facts₀ Facts

/-- Scales in two rows of 128. -/
def lanes (S : Fin 256 → EReal) : S1x2x128.Idx → EReal := fun z => S ⟨128 * (z 1).val + (z 2).val, by
  have h1 : (z 1).val < 2 := (z 1).isLt
  have h2 : (z 2).val < 128 := (z 2).isLt
  omega⟩

theorem eq_lanes {x : (⟨3, ![1, 2, 128]⟩ : Shape).Idx → EReal} {S : Fin 256 → EReal}
    (h : ∀ (i : Fin 2) (l : Fin 128), x (ix3 0 i l) = S ⟨128 * i.val + l.val, by omega⟩) : x = lanes S := by
  funext z
  have e : z 0 = (0 : Fin 1) := Fin.ext (by have : (z 0).val < 1 := (z 0).isLt; show (z 0).val = 0; omega)
  have hz := eta3 z
  rw [e] at hz
  exact (congrArg x hz).trans (h _ _)

variable [Facts] (U : Type) [URA U] (c : Dev nD) {M : Mem}

local notation "𝔹" => Bufs (Elt Ideal) (Mem.frame M)

/-- The scaled products of a block. -/
abbrev projOf (b : 𝔹) (i : Fin 256) : Fin 5376 → EReal := projRow (codesOf b i) (scaleOf b i) (row (b .w)) (row (b .s) 0)

/-- What the three stages leave in each buffer. -/
def stepped (b : 𝔹) : 𝔹
  | .codesO => mat (codesOf b) | .scalesO => lanes (scaleOf b) | .xs => mat fun i _ => scaleOf b i
  | .projW => mat (projOf b) | .o => mat (outOf b)
  | .a => b .a | .x => b .x | .w => b .w | .s => b .s | .g => b .g | .projR => b .projR

/-- What the first point's clearing leaves. -/
def cleared (b : 𝔹) : 𝔹
  | .projR => mat fun _ _ => 0
  | .codesO => b .codesO | .scalesO => b .scalesO | .xs => b .xs | .projW => b .projW | .o => b .o
  | .a => b .a | .x => b .x | .w => b .w | .s => b .s | .g => b .g

theorem step_sem (b : 𝔹) : ((step (F := Ideal) U c M).sem b).2 = stepped b := by
  have e : ((step (F := Ideal) U c M).sem b).2
      = ((normStage (F := Ideal) U c M).sem ((matmulStage (F := Ideal) U c M).sem ((quantStage (F := Ideal) U c M).sem b).2).2).2 := by
    unfold step
    rw [sem_bind, sem_bind]
  rw [e]
  have h1 := quantStage_spec U c b
  generalize ((quantStage (F := Ideal) U c M).sem b).2 = b1 at h1
  obtain ⟨k1, co, xs, so⟩ := h1
  have h2 := matmulStage_spec U c b1 (codesOf b) (scaleOf b) co xs
  generalize ((matmulStage (F := Ideal) U c M).sem b1).2 = b2 at h2
  have h3 := normStage_spec U c b2
  generalize ((normStage (F := Ideal) U c M).sem b2).2 = b3 at h3
  obtain ⟨k2, pr⟩ := h2
  obtain ⟨k3, ou⟩ := h3
  have eb : ∀ j : Bf, j ∉ [Bf.projW, .codesO, .xs, .scalesO] → b2 j = b j := fun j hj => by
    simp only [List.mem_cons, not_or, List.not_mem_nil, not_false_eq_true, and_true] at hj
    exact (k2 j (by simp [hj])).trans (k1 j (by simp [hj]))
  have go : outOf b2 = outOf b := by
    unfold outOf
    rw [eb .projR (by simp), eb .x (by simp), eb .g (by simp)]
  rw [go] at ou
  rw [k1 .w (by simp), k1 .s (by simp)] at pr
  have keep : ∀ j : Bf, j ∉ [Bf.projW, .codesO, .xs, .scalesO, .o] → b3 j = b j := fun j hj => by
    simp only [List.mem_cons, not_or, List.not_mem_nil, not_false_eq_true, and_true] at hj
    exact (k3 j (by simp [hj])).trans (eb j (by simp [hj]))
  funext j
  cases j
  case codesO => exact (k3 _ (by simp)).trans ((k2 _ (by simp)).trans (eq_mat co fun _ _ _ _ => trivial))
  case xs => exact (k3 _ (by simp)).trans ((k2 _ (by simp)).trans (eq_mat (R := 256) (C := 128) (G := fun i _ => scaleOf b i) xs fun _ _ _ _ => trivial))
  case scalesO => exact (k3 _ (by simp)).trans ((k2 _ (by simp)).trans (eq_lanes so))
  case projW => exact (k3 _ (by simp)).trans (eq_mat pr fun _ _ _ _ => trivial)
  case o => exact eq_mat ou fun _ _ _ _ => trivial
  all_goals exact keep _ (by simp)

theorem put_whole {V : Type} {R C : ℕ} (x y : (⟨2, ![R, C]⟩ : Shape).Idx → V) (v : V) (hy : ∀ i j, y (ix2 i j) = v) :
    VecWindow.put (s := ⟨2, ![R, C]⟩) x ![0, 0] ![R, C] y = fun _ => v := by
  have h := Agree.put (x := x) (G := fun _ _ => v) (P := fun _ _ => False) (fun _ _ h => h.elim) (fun _ _ => True)
    (inb2 (R := R) (C := C) (r := 0) (c := 0) (h := R) (w := C) (by omega) (by omega)) y (fun i j => hy i j) (fun a b ha hb _ => by right; omega)
  funext z
  rw [eta2 z]
  exact h _ _ trivial

theorem zero_sem (b : 𝔹) : ((zeroStage (F := Ideal) U c M).sem b).2 = cleared b := by
  have e : ((zeroStage (F := Ideal) U c M).sem b).2
      = Function.update b .projR (VecWindow.put (s := S256x5376) (b .projR) ![0, 0] ![256, 5376]
        (shapeCast S256x5376 (broadcast S256x5376 (Scalar.ofBits .f32 0x00000000#32) : FVec Ideal S256x5376 .f32) shapeCasts_S256x5376_S256x5376)) := by
    rfl
  rw [e]
  funext j
  cases j
  case projR =>
    rw [Function.update_self]
    exact put_whole (V := EReal) (R := 256) (C := 5376) _ _ 0 fun i j => by pointwise []
  all_goals
    rw [Function.update_of_ne (by simp)]
    rfl

end Cert.OutputIdeal.Val
-- ==== Proof.Output.Run.lean ====
/-
  The run of the whole projection: what every grid point finds and leaves, and what the arrays hold at the end.
-/
module

public import proofs.«01_k».proof.Proof.Output.Point
public import proofs.«01_k».proof.Proof.Gen.OutputIdeal.Frame.Runs
public import Idealize.ShloMosaic.Lib.Claim

@[expose] public section

noncomputable section

namespace Cert.OutputIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Body Cert.Math
open Cert.ProjectIdeal.Val (mat mat_apply eta2 eta3 eq_mat)
open Cert.OutputIdeal.Gen

section Rows

/-- The codes, the scales, the scaled products and the result of a block, row by row. -/
abbrev codeRows (a : Vec Ideal S256x1024 .f32) (i : Fin 256) : Fin 1024 → EReal := code (row a i)
abbrev scaleRows (a : Vec Ideal S256x1024 .f32) (i : Fin 256) : EReal := scale (top (row a i))
abbrev projRows (a : Vec Ideal S256x1024 .f32) (w : Vec Ideal S1024x5376 .fp8e4m3) (s : Vec Ideal S1x5376 .f32) (i : Fin 256) :
    Fin 5376 → EReal := projRow (codeRows a i) (scaleRows a i) (row w) (row s 0)
abbrev outRows (x : Vec Ideal S256x5376 .bf16) (p : Vec Ideal S256x5376 .f32) (g : Vec Ideal S1x5376 .f32) (i : Fin 256) : Fin 5376 → EReal :=
  outRow (row x i) (row p i) (row g 0)

end Rows

local notation "𝕌" => UR sig nD τ
local notation "𝕄" => MT nD τ sig Unit (Elt Ideal) ℕ (UR sig nD τ) ℕ

section Point

variable (c : Dev nD) (M : Mem)

/-- The eleven buffers at the contents given. -/
def bufs (v_a : Vec Ideal S256x1024 .f32) (v_x : Vec Ideal S256x5376 .bf16) (v_w : Vec Ideal S1024x5376 .fp8e4m3) (v_s : Vec Ideal S1x5376 .f32) (v_g : Vec Ideal S1x5376 .f32) (v_codesO : Vec Ideal S256x1024 .fp8e4m3) (v_scalesO : Vec Ideal S1x2x128 .f32) (v_o : Vec Ideal S256x5376 .bf16) (v_projW : Vec Ideal S256x5376 .f32) (v_projR : Vec Ideal S256x5376 .f32) (v_xs : Vec Ideal S256x128 .f32) : Bufs (Elt Ideal) M.frame
  | .a => v_a
  | .x => v_x
  | .w => v_w
  | .s => v_s
  | .g => v_g
  | .codesO => v_codesO
  | .scalesO => v_scalesO
  | .o => v_o
  | .projW => v_projW
  | .projR => v_projR
  | .xs => v_xs

theorem held_eq (b : Bufs (Elt Ideal) M.frame) : (held c M.frame b : sProp 𝕄)
    = iprop(owns (c : Thread nD τ) (M.ref .a) fullShare (b .a)
      ∗ owns (c : Thread nD τ) (M.ref .x) fullShare (b .x)
      ∗ owns (c : Thread nD τ) (M.ref .w) fullShare (b .w)
      ∗ owns (c : Thread nD τ) (M.ref .s) fullShare (b .s)
      ∗ owns (c : Thread nD τ) (M.ref .g) fullShare (b .g)
      ∗ owns (c : Thread nD τ) (M.ref .codesO) fullShare (b .codesO)
      ∗ owns (c : Thread nD τ) (M.ref .scalesO) fullShare (b .scalesO)
      ∗ owns (c : Thread nD τ) (M.ref .o) fullShare (b .o)
      ∗ owns (c : Thread nD τ) (M.ref .projW) fullShare (b .projW)
      ∗ owns (c : Thread nD τ) (M.ref .projR) fullShare (b .projR)
      ∗ owns (c : Thread nD τ) (M.ref .xs) fullShare (b .xs)) :=
  bigSep_univ_eq_bigSepL ([.a, .x, .w, .s, .g, .codesO, .scalesO, .o, .projW, .projR, .xs] : List Bf) (by decide) (by decide) _

/-- A grid point's run, from the contents of the buffers to the contents it leaves. -/
theorem step_run (v_a : Vec Ideal S256x1024 .f32) (v_x : Vec Ideal S256x5376 .bf16) (v_w : Vec Ideal S1024x5376 .fp8e4m3) (v_s : Vec Ideal S1x5376 .f32) (v_g : Vec Ideal S1x5376 .f32) (v_codesO : Vec Ideal S256x1024 .fp8e4m3) (v_scalesO : Vec Ideal S1x2x128 .f32) (v_o : Vec Ideal S256x5376 .bf16) (v_projW : Vec Ideal S256x5376 .f32) (v_projR : Vec Ideal S256x5376 .f32) (v_xs : Vec Ideal S256x128 .f32) (E : Set ℕ) (K : PUnit → sProp 𝕄) :
    iprop((owns (c : Thread nD τ) (M.ref .a) fullShare v_a
      ∗ owns (c : Thread nD τ) (M.ref .x) fullShare v_x
      ∗ owns (c : Thread nD τ) (M.ref .w) fullShare v_w
      ∗ owns (c : Thread nD τ) (M.ref .s) fullShare v_s
      ∗ owns (c : Thread nD τ) (M.ref .g) fullShare v_g
      ∗ owns (c : Thread nD τ) (M.ref .codesO) fullShare v_codesO
      ∗ owns (c : Thread nD τ) (M.ref .scalesO) fullShare v_scalesO
      ∗ owns (c : Thread nD τ) (M.ref .o) fullShare v_o
      ∗ owns (c : Thread nD τ) (M.ref .projW) fullShare v_projW
      ∗ owns (c : Thread nD τ) (M.ref .projR) fullShare v_projR
      ∗ owns (c : Thread nD τ) (M.ref .xs) fullShare v_xs)
      ∗ ((owns (c : Thread nD τ) (M.ref .a) fullShare v_a
      ∗ owns (c : Thread nD τ) (M.ref .x) fullShare v_x
      ∗ owns (c : Thread nD τ) (M.ref .w) fullShare v_w
      ∗ owns (c : Thread nD τ) (M.ref .s) fullShare v_s
      ∗ owns (c : Thread nD τ) (M.ref .g) fullShare v_g
      ∗ owns (c : Thread nD τ) (M.ref .codesO) fullShare (mat (codeRows v_a))
      ∗ owns (c : Thread nD τ) (M.ref .scalesO) fullShare (lanes (scaleRows v_a))
      ∗ owns (c : Thread nD τ) (M.ref .o) fullShare (mat (outRows v_x v_projR v_g))
      ∗ owns (c : Thread nD τ) (M.ref .projW) fullShare (mat (projRows v_a v_w v_s))
      ∗ owns (c : Thread nD τ) (M.ref .projR) fullShare v_projR
      ∗ owns (c : Thread nD τ) (M.ref .xs) fullShare (mat fun i _ => scaleRows v_a i)) -∗ K ⟨⟩))
    ⊢ wp frame (wpE (defs₀ (F := Ideal)) Variants.none (c : Thread nD τ) none) E (step (F := Ideal) 𝕌 c M).prog K := by
  have h := (step (F := Ideal) 𝕌 c M).ok (bufs M v_a v_x v_w v_s v_g v_codesO v_scalesO v_o v_projW v_projR v_xs) E K
  rw [step_sem, held_eq, held_eq] at h
  exact h

/-- The first point's run: whatever the carried buffers held. -/
theorem first_run (v_a : Vec Ideal S256x1024 .f32) (v_x : Vec Ideal S256x5376 .bf16) (v_w : Vec Ideal S1024x5376 .fp8e4m3) (v_s : Vec Ideal S1x5376 .f32) (v_g : Vec Ideal S1x5376 .f32) (v_codesO : Vec Ideal S256x1024 .fp8e4m3) (v_scalesO : Vec Ideal S1x2x128 .f32) (v_o : Vec Ideal S256x5376 .bf16) (v_projW : Vec Ideal S256x5376 .f32) (v_projR : Vec Ideal S256x5376 .f32) (v_xs : Vec Ideal S256x128 .f32) (E : Set ℕ) (K : PUnit → sProp 𝕄) :
    iprop((owns (c : Thread nD τ) (M.ref .a) fullShare v_a
      ∗ owns (c : Thread nD τ) (M.ref .x) fullShare v_x
      ∗ owns (c : Thread nD τ) (M.ref .w) fullShare v_w
      ∗ owns (c : Thread nD τ) (M.ref .s) fullShare v_s
      ∗ owns (c : Thread nD τ) (M.ref .g) fullShare v_g
      ∗ owns (c : Thread nD τ) (M.ref .codesO) fullShare v_codesO
      ∗ owns (c : Thread nD τ) (M.ref .scalesO) fullShare v_scalesO
      ∗ owns (c : Thread nD τ) (M.ref .o) fullShare v_o
      ∗ owns (c : Thread nD τ) (M.ref .projW) fullShare v_projW
      ∗ owns (c : Thread nD τ) (M.ref .projR) fullShare v_projR
      ∗ owns (c : Thread nD τ) (M.ref .xs) fullShare v_xs)
      ∗ ((owns (c : Thread nD τ) (M.ref .a) fullShare v_a
      ∗ owns (c : Thread nD τ) (M.ref .x) fullShare v_x
      ∗ owns (c : Thread nD τ) (M.ref .w) fullShare v_w
      ∗ owns (c : Thread nD τ) (M.ref .s) fullShare v_s
      ∗ owns (c : Thread nD τ) (M.ref .g) fullShare v_g
      ∗ owns (c : Thread nD τ) (M.ref .codesO) fullShare (mat (codeRows v_a))
      ∗ owns (c : Thread nD τ) (M.ref .scalesO) fullShare (lanes (scaleRows v_a))
      ∗ owns (c : Thread nD τ) (M.ref .o) fullShare (mat (outRows v_x (mat fun _ _ => 0) v_g))
      ∗ owns (c : Thread nD τ) (M.ref .projW) fullShare (mat (projRows v_a v_w v_s))
      ∗ owns (c : Thread nD τ) (M.ref .projR) fullShare (mat fun _ _ => 0)
      ∗ owns (c : Thread nD τ) (M.ref .xs) fullShare (mat fun i _ => scaleRows v_a i)) -∗ K ⟨⟩))
    ⊢ wp frame (wpE (defs₀ (F := Ideal)) Variants.none (c : Thread nD τ) none) E (Act.bind (zeroStage (F := Ideal) 𝕌 c M) fun _ => step (F := Ideal) 𝕌 c M).prog K := by
  have h := (Act.bind (zeroStage (F := Ideal) 𝕌 c M) fun _ => step (F := Ideal) 𝕌 c M).ok (bufs M v_a v_x v_w v_s v_g v_codesO v_scalesO v_o v_projW v_projR v_xs) E K
  rw [show ((Act.bind (zeroStage (F := Ideal) 𝕌 c M) fun _ => step (F := Ideal) 𝕌 c M).sem (bufs M v_a v_x v_w v_s v_g v_codesO v_scalesO v_o v_projW v_projR v_xs)).2
    = ((step (F := Ideal) 𝕌 c M).sem ((zeroStage (F := Ideal) 𝕌 c M).sem (bufs M v_a v_x v_w v_s v_g v_codesO v_scalesO v_o v_projW v_projR v_xs)).2).2 from (rfl), step_sem, zero_sem, held_eq, held_eq] at h
  exact h

end Point

end Cert.OutputIdeal.Val
-- ==== Proof.Output.Flow.lean ====
/-
  The run of the whole output kernel: what every grid point finds and leaves.
-/
module

public import proofs.«01_k».proof.Proof.Output.Run

@[expose] public section

set_option maxRecDepth 16384

noncomputable section

namespace Cert.OutputIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Body Cert.Math
open Cert.ProjectIdeal.Val (mat mat_apply eta2 eta3 eq_mat)
open Cert.OutputIdeal.Gen

local notation "𝕌" => UR sig nD τ
local notation "𝕄" => MT nD τ sig Unit (Elt Ideal) ℕ (UR sig nD τ) ℕ

variable (m : (ℓ : Loc nD τ sig) → Buf (Elt Ideal) ℓ) (ρ : Dev nD → PrngReg) (c : Dev nD)

/-- A grid point by its number. -/
def pt (n : ℕ) : Fin cfg0.N := ⟨min n 51, lt_of_le_of_lt (Nat.min_le_right _ _) (by rw [show cfg0.N = 52 from N_0]; decide)⟩

theorem pt_val (t : Fin cfg0.N) : pt t.val = t := by
  apply Fin.ext
  have hN : t.val < 52 := lt_of_lt_of_eq t.isLt (show cfg0.N = 52 from N_0)
  show min t.val 51 = t.val
  omega

/-! The blocks of the inputs at a point. -/
abbrev aB (t : Fin cfg0.N) : Vec Ideal S256x1024 .f32 := iblk m c 0 t
abbrev xB (t : Fin cfg0.N) : Vec Ideal S256x5376 .bf16 := iblk m c 1 t
abbrev wB (t : Fin cfg0.N) : Vec Ideal S1024x5376 .fp8e4m3 := iblk m c 2 t
abbrev sB (t : Fin cfg0.N) : Vec Ideal S1x5376 .f32 := iblk m c 3 t
abbrev gB (t : Fin cfg0.N) : Vec Ideal S1x5376 .f32 := iblk m c 4 t

/-- The scales point `n - 1` left: nothing before the first. -/
def xsAt : ℕ → Vec Ideal S256x128 .f32
  | 0 => mat fun _ _ => 0
  | n + 1 => mat fun i _ => scaleRows (aB m c (pt n)) i
/-- The scaled products point `n - 1` left: zeros before the first. -/
def projAt : ℕ → Vec Ideal S256x5376 .f32
  | 0 => mat fun _ _ => 0
  | n + 1 => mat (projRows (aB m c (pt n)) (wB m c (pt n)) (sB m c (pt n)))

theorem xsAt_succ (t : Fin cfg0.N) : xsAt m c (t.val + 1) = mat fun i _ => scaleRows (aB m c t) i :=
  congrArg (fun p => mat fun i (_ : Fin 128) => scaleRows (aB m c p) i) (pt_val t)
theorem projAt_succ (t : Fin cfg0.N) : projAt m c (t.val + 1) = mat (projRows (aB m c t) (wB m c t) (sB m c t)) :=
  congrArg (fun p => mat (projRows (aB m c p) (wB m c p) (sB m c p))) (pt_val t)

/-! The blocks of the outputs at a point. -/
abbrev codesB (t : Fin cfg0.N) : Vec Ideal S256x1024 .fp8e4m3 := mat (codeRows (aB m c t))
abbrev scalesB (t : Fin cfg0.N) : Vec Ideal S1x2x128 .f32 := lanes (scaleRows (aB m c t))
abbrev oB (t : Fin cfg0.N) : Vec Ideal S256x5376 .bf16 := mat (outRows (xB m c t) (projAt m c t.val) (gB m c t))

/-- The three carried buffers at given contents. -/
def carried (a0 a1 : Vec Ideal S256x5376 .f32) (a2 : Vec Ideal S256x128 .f32) : sProp 𝕄 :=
  iprop((owns (c : Thread nD τ) scM0_0 fullShare a0 ∗ owns (c : Thread nD τ) scM0_1 fullShare a1 ∗ owns (c : Thread nD τ) scM0_2 fullShare a2)
    ∗ (∃ r, prngReg c r))

/-- What the carried buffers hold before point `n`: after an even point its products are in the first. -/
def inv : ℕ → sProp 𝕄
  | 0 => Pipeline.ΦA spec0 c
  | n + 1 => if n % 2 = 0
      then carried c (projAt m c (n + 1)) (projAt m c n) (xsAt m c (n + 1))
      else carried c (projAt m c n) (projAt m c (n + 1)) (xsAt m c (n + 1))

theorem inv_even (n : ℕ) (h : n % 2 = 0) : inv m c (n + 1)
    = carried c (projAt m c (n + 1)) (projAt m c n) (xsAt m c (n + 1)) := if_pos h
theorem inv_odd (n : ℕ) (h : ¬ n % 2 = 0) : inv m c (n + 1)
    = carried c (projAt m c n) (projAt m c (n + 1)) (xsAt m c (n + 1)) := if_neg h

/-- The proof data of the pipeline. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codesB m c t
    | ⟨6, _⟩ => scalesB m c t
    | ⟨7, _⟩ => oB m c t
  Φ t := inv m c t.val
  q _ := fullShare
  owed _ := 0

theorem A_eq (w : Fin cfg0.W) : (dats m 0 c).A w = V m c (Pipeline.arrRef spec0 w) := by
  dsimp only [dats]

theorem before_0 (t : Fin cfg0.N) (d) : (dats m 0 c).before 0 t d = iblk m c 0 t :=
  before0_0_of m (dats m 0 c) (A_eq m c 0) (fun t => by dsimp only [dats]) t d
theorem before_1 (t : Fin cfg0.N) (d) : (dats m 0 c).before 1 t d = iblk m c 1 t :=
  before0_1_of m (dats m 0 c) (A_eq m c 1) (fun t => by dsimp only [dats]) t d
theorem before_2 (t : Fin cfg0.N) (d) : (dats m 0 c).before 2 t d = iblk m c 2 t :=
  before0_2_of m (dats m 0 c) (A_eq m c 2) (fun t => by dsimp only [dats]) t d
theorem before_3 (t : Fin cfg0.N) (d) : (dats m 0 c).before 3 t d = iblk m c 3 t :=
  before0_3_of m (dats m 0 c) (A_eq m c 3) (fun t => by dsimp only [dats]) t d
theorem before_4 (t : Fin cfg0.N) (d) : (dats m 0 c).before 4 t d = iblk m c 4 t :=
  before0_4_of m (dats m 0 c) (A_eq m c 4) (fun t => by dsimp only [dats]) t d

theorem live : ∀ (w : Fin 8) (t : Fin cfg0.N), cfg0.idle w (grid0.coords t) = false := by decide +kernel

/-- What the body is called with at point `t`, window by window, -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t)

theorem leaves_0 (t : Fin cfg0.N) : (dats m 0 c).leavesExact 0 t = owns (c : Thread nD τ) (ms0_0 t) fullShare (iblk m c 0 t) := by
  unfold Dat.leavesExact
  rw [live 0 t]
  dsimp only [dats]
theorem leaves_1 (t : Fin cfg0.N) : (dats m 0 c).leavesExact 1 t = owns (c : Thread nD τ) (ms0_1 t) fullShare (iblk m c 1 t) := by
  unfold Dat.leavesExact
  rw [live 1 t]
  dsimp only [dats]
theorem leaves_2 (t : Fin cfg0.N) : (dats m 0 c).leavesExact 2 t = owns (c : Thread nD τ) (ms0_2 t) fullShare (iblk m c 2 t) := by
  unfold Dat.leavesExact
  rw [live 2 t]
  dsimp only [dats]
theorem leaves_3 (t : Fin cfg0.N) : (dats m 0 c).leavesExact 3 t = owns (c : Thread nD τ) (ms0_3 t) fullShare (iblk m c 3 t) := by
  unfold Dat.leavesExact
  rw [live 3 t]
  dsimp only [dats]
theorem leaves_4 (t : Fin cfg0.N) : (dats m 0 c).leavesExact 4 t = owns (c : Thread nD τ) (ms0_4 t) fullShare (iblk m c 4 t) := by
  unfold Dat.leavesExact
  rw [live 4 t]
  dsimp only [dats]
theorem leaves_5 (t : Fin cfg0.N) : (dats m 0 c).leavesExact 5 t = owns (c : Thread nD τ) (ms0_5 t) fullShare (codesB m c t) := by
  unfold Dat.leavesExact
  rw [live 5 t]
  dsimp only [dats]
theorem leaves_6 (t : Fin cfg0.N) : (dats m 0 c).leavesExact 6 t = owns (c : Thread nD τ) (ms0_6 t) fullShare (scalesB m c t) := by
  unfold Dat.leavesExact
  rw [live 6 t]
  dsimp only [dats]
theorem leaves_7 (t : Fin cfg0.N) : (dats m 0 c).leavesExact 7 t = owns (c : Thread nD τ) (ms0_7 t) fullShare (oB m c t) := by
  unfold Dat.leavesExact
  rw [live 7 t]
  dsimp only [dats]
/-- The first point. -/
theorem sound_first (t : Fin cfg0.N) (hz : t.val = 0) :
    bodyPre m c t ⊢ wp frame (wpE (defs₀ (F := Ideal)) Variants.none c none) Set.univ (bodyAt0 t) (fun _ => bodyPost m c t) := by
  have hN : t.val < 52 := lt_of_lt_of_eq t.isLt (show cfg0.N = 52 from N_0)
  unfold bodyPre bodyPost
  simp only [before_0, before_1, before_2, before_3, before_4]
  rw [show (dats m 0 c).owesAt () t.succ = (dats m 0 c).owesAt () t.castSucc from rfl,
    show (dats m 0 c).Φ t.succ = inv m c (t.val + 1) from rfl, show (dats m 0 c).Φ t.castSucc = inv m c t.val from rfl]
  rw [leaves_0, leaves_1, leaves_2, leaves_3, leaves_4, leaves_5, leaves_6, leaves_7]
  have hi : inv m c t.val = Pipeline.ΦA spec0 c := by rw [hz]; rfl
  rw [inv_even m c t.val (by omega), xsAt_succ, projAt_succ, hi, PhiA0_eq]
  unfold oB
  rw [show projAt m c t.val = mat fun _ _ => 0 by rw [hz]; rfl]
  unfold carried
  unfold bodyAt0
  rw [body_first (F := Ideal) 𝕌 c _ _ _ _ _ _ _ _ _ _ _ _ _ _ _ _ _ _ _ _ _ _ _ ((hcond0_0 t).mpr (by omega)) ((hcond0_1 t).mpr (by omega)) (fun h => absurd ((hcond0_2 t).mp h) (by omega))]
  iintro ⟨⟨⟨⟨%e0, S0⟩, ⟨%e1, S1⟩, ⟨%e2, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (first_run c _ _ _ _ _ _ _ _ _ _ _ _ Set.univ _)
  isplitl [H0 H1 H2 H3 H4 H5 H6 H7 S0 S1 S2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    iexact S2
  iintro ⟨H0, H1, H2, H3, H4, H5, H6, H7, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- A later even point. -/
theorem sound_even (t : Fin cfg0.N) (h0 : ¬ t.val % 52 = 0) (h1 : t.val % 2 = 0) :
    bodyPre m c t ⊢ wp frame (wpE (defs₀ (F := Ideal)) Variants.none c none) Set.univ (bodyAt0 t) (fun _ => bodyPost m c t) := by
  have hN : t.val < 52 := lt_of_lt_of_eq t.isLt (show cfg0.N = 52 from N_0)
  unfold bodyPre bodyPost
  simp only [before_0, before_1, before_2, before_3, before_4]
  rw [show (dats m 0 c).owesAt () t.succ = (dats m 0 c).owesAt () t.castSucc from rfl,
    show (dats m 0 c).Φ t.succ = inv m c (t.val + 1) from rfl, show (dats m 0 c).Φ t.castSucc = inv m c t.val from rfl]
  rw [leaves_0, leaves_1, leaves_2, leaves_3, leaves_4, leaves_5, leaves_6, leaves_7]
  have hi := inv_odd m c (t.val - 1) (by omega)
  rw [show t.val - 1 + 1 = t.val by omega] at hi
  rw [inv_even m c t.val h1, xsAt_succ, projAt_succ, hi]
  unfold carried
  unfold bodyAt0
  rw [body_even (F := Ideal) 𝕌 c _ _ _ _ _ _ _ _ _ _ _ _ _ _ _ _ _ _ _ _ _ _ _ (fun h => h0 ((hcond0_0 t).mp h)) ((hcond0_1 t).mpr h1) (fun h => absurd ((hcond0_2 t).mp h) (by omega))]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (step_run c _ _ _ _ _ _ _ _ _ _ _ _ Set.univ _)
  isplitl [H0 H1 H2 H3 H4 H5 H6 H7 S0 S1 S2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    iexact S2
  iintro ⟨H0, H1, H2, H3, H4, H5, H6, H7, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- An odd point. -/
theorem sound_odd (t : Fin cfg0.N) (h1 : ¬ t.val % 2 = 0) :
    bodyPre m c t ⊢ wp frame (wpE (defs₀ (F := Ideal)) Variants.none c none) Set.univ (bodyAt0 t) (fun _ => bodyPost m c t) := by
  have hN : t.val < 52 := lt_of_lt_of_eq t.isLt (show cfg0.N = 52 from N_0)
  unfold bodyPre bodyPost
  simp only [before_0, before_1, before_2, before_3, before_4]
  rw [show (dats m 0 c).owesAt () t.succ = (dats m 0 c).owesAt () t.castSucc from rfl,
    show (dats m 0 c).Φ t.succ = inv m c (t.val + 1) from rfl, show (dats m 0 c).Φ t.castSucc = inv m c t.val from rfl]
  rw [leaves_0, leaves_1, leaves_2, leaves_3, leaves_4, leaves_5, leaves_6, leaves_7]
  have hi := inv_even m c (t.val - 1) (by omega)
  rw [show t.val - 1 + 1 = t.val by omega] at hi
  rw [inv_odd m c t.val h1, xsAt_succ, projAt_succ, hi]
  unfold carried
  unfold bodyAt0
  rw [body_odd (F := Ideal) 𝕌 c _ _ _ _ _ _ _ _ _ _ _ _ _ _ _ _ _ _ _ _ _ _ _ (fun h => absurd ((hcond0_0 t).mp h) (by omega)) (fun h => h1 ((hcond0_1 t).mp h)) ((hcond0_2 t).mpr (by omega))]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (step_run c _ _ _ _ _ _ _ _ _ _ _ _ Set.univ _)
  isplitl [H0 H1 H2 H3 H4 H5 H6 H7 S0 S1 S2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S1]; · iexact S1
    isplitl [S0]; · iexact S0
    iexact S2
  iintro ⟨H0, H1, H2, H3, H4, H5, H6, H7, S1, S0, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem sound_body (t : Fin cfg0.N) :
    bodyPre m c t ⊢ wp frame (wpE (defs₀ (F := Ideal)) Variants.none c none) Set.univ (bodyAt0 t) (fun _ => bodyPost m c t) := by
  have hN : t.val < 52 := lt_of_lt_of_eq t.isLt (show cfg0.N = 52 from N_0)
  by_cases h1 : t.val % 2 = 0
  · by_cases hz : t.val = 0
    · exact sound_first m c t hz
    · exact sound_even m c t (by omega) h1
  · exact sound_odd m c t h1

theorem defs₀_row (t : Fin cfg0.N) : defs₀ (F := Ideal) .tc cfg0.body (cfg0.bodyArgs t (cfg0.slots t)) = bodyAt0 t := by
  unfold defs₀
  rw [Defs.onTc_tc]

theorem body_obligation : BodyObligation (dats m 0 c) (defs₀ (F := Ideal)) Variants.none () Set.univ := fun t => by
  rw [bigSep_W0, bigSep_W0, defs₀_row]
  exact triple_restated (sound_body m c t) rfl .rfl fun _ => .rfl

theorem hin : Pipeline.ΦA spec0 c ⊢ (dats m 0 c).Φ 0 := by
  rw [show (dats m 0 c).Φ 0 = Pipeline.ΦA spec0 c from rfl]

theorem hout : (dats m 0 c).Φ (Fin.last cfg0.N) ⊢ Pipeline.ΦA spec0 c := by
  have hN : cfg0.N = 52 := N_0
  rw [show (dats m 0 c).Φ (Fin.last cfg0.N) = inv m c (51 + 1) from (congrArg (inv m c) hN : inv m c cfg0.N = _), inv_odd m c 51 (by decide), PhiA0_eq]
  unfold carried
  iintro ⟨⟨S0, S1, S2⟩, Hg⟩
  isplitl [S0 S1 S2]
  · isplitl [S0]; · iexists _; iexact S0
    isplitl [S1]; · iexists _; iexact S1
    iexists _; iexact S2
  iexact Hg

set_option backward.isDefEq.respectTransparency.types false in
/-- The run: every array ends at what the pipeline writes back, and every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun c => A_eq m c) (hin := fun c => hin m c) (hout := fun c => hout m c)

end Cert.OutputIdeal.Val
-- ==== Proof.Output.Arrays.lean ====
/-
  What the three arrays of the output projection hold at the end, as functions of its arguments: row by row for the codes
  and the results, and lane by lane for the scales of the rows.
-/
module

public import proofs.«01_k».proof.Proof.Output.Flow
public import Idealize.ShloMosaic.Lib.Pipeline.ValueKit

@[expose] public section

set_option maxRecDepth 16384

noncomputable section

namespace Cert.OutputIdeal.Val

open Idealize.ShloMosaic Idealize.ShloMosaic.TcCoe Idealize.ShloMosaic.Tactic
open Idealize.ShloMosaic.Pipeline (Dat Cfg Window)
open Cert.Body Cert.Math
open Cert.ProjectIdeal.Val (mat mat_apply eta2 eta3 eq_mat)
open Cert.OutputIdeal.Gen

/-! ## The results as functions of the arguments -/

section Results

variable (A : Vec Ideal S13056x1024 .f32) (X : Vec Ideal S13056x5376 .bf16) (w : Vec Ideal S1024x5376 .fp8e4m3) (s g : Vec Ideal S1x5376 .f32)

/-- The codes of a row of the attention result. -/
abbrev codeR (i : Fin 13056) : Fin 1024 → EReal := code (row A i)
/-- The scale of a row. -/
abbrev scaleR (i : Fin 13056) : EReal := scale (top (row A i))
/-- The scaled products of a row with the weights. -/
abbrev projR (i : Fin 13056) : Fin 5376 → EReal := projRow (codeR A i) (scaleR A i) (row w) (row s 0)
/-- A row of the result: the residual plus the normalised products. -/
abbrev outR (i : Fin 13056) : Fin 5376 → EReal := outRow (row X i) (projR A w s i) (row g 0)
/-- The scales of the rows, 256 to a tile and 128 to a line. -/
abbrev scaleG : Vec Ideal S51x2x128 .f32 := fun j =>
  scaleR A ⟨256 * (j 0).val + (128 * (j 1).val + (j 2).val), by
    have h0 : (j 0).val < 51 := (j 0).isLt
    have h1 : (j 1).val < 2 := (j 1).isLt
    have h2 : (j 2).val < 128 := (j 2).isLt
    omega⟩

end Results

/-! ## Where the blocks lie -/

theorem e0 : ∀ t : Fin cfg0.N, win0_0.index t = ![min t.val 50, 0] := (by decide +kernel : ∀ t : Fin grid0.N, _)
theorem e1 : ∀ t : Fin cfg0.N, win0_1.index t = ![t.val - 1, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![min t.val 50, 0] := (by decide +kernel : ∀ t : Fin grid0.N, _)
theorem e6 : ∀ t : Fin cfg0.N, win0_6.index t = ![min t.val 50, 0, 0] := (by decide +kernel : ∀ t : Fin grid0.N, _)
theorem e7 : ∀ t : Fin cfg0.N, win0_7.index t = ![t.val - 1, 0] := (by decide +kernel : ∀ t : Fin grid0.N, _)

/-- The result is written back from the second point on. -/
theorem late : ∀ t : Fin cfg0.N, (cfg0.win 7).flush t = true → 1 ≤ t.val := (by decide +kernel : ∀ t : Fin grid0.N, _)

variable (m : (ℓ : Loc nD τ sig) → Buf (Elt Ideal) ℓ) (c : Dev nD)

/-! The arguments. -/
abbrev aA : Vec Ideal S13056x1024 .f32 := m ((c : Thread nD τ).loc main_arg0)
abbrev aX : Vec Ideal S13056x5376 .bf16 := m ((c : Thread nD τ).loc main_arg1)
abbrev aW : Vec Ideal S1024x5376 .fp8e4m3 := m ((c : Thread nD τ).loc main_arg2)
abbrev aS : Vec Ideal S1x5376 .f32 := m ((c : Thread nD τ).loc main_arg3)
abbrev aG : Vec Ideal S1x5376 .f32 := m ((c : Thread nD τ).loc main_arg4)

/-- A row of the block of the attention result at point `t`. -/
theorem aB_row (t : Fin cfg0.N) (i : Fin 256) (n : Fin 13056) (hn : n.val = min t.val 50 * 256 + i.val) : row (aB m c t) i = row (aA m c) n := by
  funext k
  show iblk m c 0 t (ix2 i k) = _
  blk_simp [iblk, e0]
  refine congrArg (aA m c) ?_
  blk_ext [e0]
theorem xB_row (t : Fin cfg0.N) (i : Fin 256) (n : Fin 13056) (hn : n.val = (t.val - 1) * 256 + i.val) : row (xB m c t) i = row (aX m c) n := by
  funext k
  show iblk m c 1 t (ix2 i k) = _
  blk_simp [iblk, e1]
  refine congrArg (aX m c) ?_
  blk_ext [e1]
theorem wB_eq (t : Fin cfg0.N) : wB m c t = aW m c := by
  funext j
  show iblk m c 2 t j = _
  blk_simp [iblk]
  refine congrArg (aW m c) ?_
  blk_ext [e2]
theorem sB_eq (t : Fin cfg0.N) : sB m c t = aS m c := by
  funext j
  show iblk m c 3 t j = _
  blk_simp [iblk]
  refine congrArg (aS m c) ?_
  blk_ext [e3]
theorem gB_eq (t : Fin cfg0.N) : gB m c t = aG m c := by
  funext j
  show iblk m c 4 t j = _
  blk_simp [iblk]
  refine congrArg (aG m c) ?_
  blk_ext [e4]

/-- The codes and the scale of a row of the block at point `t`. -/
theorem codeRows_eq (t : Fin cfg0.N) (i : Fin 256) (n : Fin 13056) (hn : n.val = min t.val 50 * 256 + i.val) :
    codeRows (aB m c t) i = codeR (aA m c) n := by
  unfold codeRows
  rw [aB_row m c t i n hn]
theorem scaleRows_eq (t : Fin cfg0.N) (i : Fin 256) (n : Fin 13056) (hn : n.val = min t.val 50 * 256 + i.val) :
    scaleRows (aB m c t) i = scaleR (aA m c) n := by
  unfold scaleRows
  rw [aB_row m c t i n hn]

/-- The products a point from the second on works with are those of the block one point before. -/
theorem projAt_row (t : Fin cfg0.N) (ht : 1 ≤ t.val) (i : Fin 256) (n : Fin 13056) (hn : n.val = (t.val - 1) * 256 + i.val) :
    row (projAt m c t.val) i = Val.projR (aA m c) (aW m c) (aS m c) n := by
  have hN : t.val < 52 := lt_of_lt_of_eq t.isLt (show cfg0.N = 52 from N_0)
  obtain ⟨k, hk⟩ : ∃ k, t.val = k + 1 := ⟨t.val - 1, by omega⟩
  rw [hk]
  have hp : (pt k).val = k := by show min k 51 = k; omega
  have h1 := codeRows_eq m c (pt k) i n (by omega)
  have h2 := scaleRows_eq m c (pt k) i n (by omega)
  show projRow (codeRows (aB m c (pt k)) i) (scaleRows (aB m c (pt k)) i) (row (wB m c (pt k))) (row (sB m c (pt k)) 0) = _
  rw [h1, h2, wB_eq, sB_eq]

/-! ## The arrays at the end -/

theorem final5 : (dats m 0 c).arrAt 5 cfg0.N = mat (codeR (aA m c)) := by
  refine (dats m 0 c).arrAt_eq_of_covers 5 _ (by decide +kernel) fun t hf y => ?_
  blk_simp
  refine (congrFun (codeRows_eq m c t (y 0) (((win0_5.blk t).view.emb y) 0) (by blk_simp [e5])) (y 1)).trans ?_
  refine congrArg (codeR (aA m c) _) (Fin.ext ?_)
  blk_simp [e5]
theorem final6 : (dats m 0 c).arrAt 6 cfg0.N = scaleG (aA m c) := by
  refine (dats m 0 c).arrAt_eq_of_covers 6 _ (by decide +kernel) fun t hf y => ?_
  blk_simp
  have h0 : (y 0).val < 1 := (y 0).isLt
  refine scaleRows_eq m c t _ _ ?_
  blk_simp [e6]
  show 256 * min t.val 50 + (128 * (y 1).val + (y 2).val) = min t.val 50 * 256 + (128 * (y 1).val + (y 2).val)
  omega
theorem final7 : (dats m 0 c).arrAt 7 cfg0.N = mat (outR (aA m c) (aX m c) (aW m c) (aS m c) (aG m c)) := by
  refine (dats m 0 c).arrAt_eq_of_covers 7 _ (by decide +kernel) fun t hf y => ?_
  have ht := late t hf
  blk_simp
  have hn : (((win0_7.blk t).view.emb y) 0).val = (t.val - 1) * 256 + (y 0).val := by blk_simp [e7]
  show outRow (row (xB m c t) (y 0)) (row (projAt m c t.val) (y 0)) (row (gB m c t) 0) (y 1) = _
  rw [projAt_row m c t ht (y 0) _ hn, gB_eq, xB_row m c t (y 0) _ hn]
  refine congrArg (outR (aA m c) (aX m c) (aW m c) (aS m c) (aG m c) _) (Fin.ext ?_)
  blk_simp [e7]

end Cert.OutputIdeal.Val
-- ==== Proof.Output.Ref.lean ====
/-
  The output projection's reference, entry by entry: the same row functions of its arguments.
-/
module

public import proofs.«01_k».proof.Proof.Output.Sem
public import proofs.«01_k».proof.Proof.Output.Point
public import proofs.«01_k».proof.Proof.Gen.OutputRefIdeal.Value

@[expose] public section

set_option maxRecDepth 16384

noncomputable section

namespace Cert.OutputRefIdeal.Val

open Idealize.ShloMosaic Idealize.ShloMosaic.TcCoe
open Cert.Math Cert.OutputIdeal.Val
open Cert.ProjectIdeal.Val (mat mat_apply eta2 eta3 eq_mat)
open Cert.OutputRefIdeal Cert.OutputRefIdeal.Gen
open Facts₀ Facts

/-- The scales, from the absolute maxima. -/
theorem select_apply {s : Shape} (M : FVec Ideal s .f32) (j : s.Idx) :
    select (cmpf .ogt M (broadcast s (Scalar.ofBits .f32 0x00000000#32))) (divf M (broadcast s (Scalar.ofBits .f32 0x43E00000#32))) (broadcast s (Scalar.ofBits .f32 0x3F800000#32)) j
      = scale (M j) := by
  pointwise []
  rfl

/-- The codes, from what is clipped. -/
theorem clip_apply {s : Shape} (V : FVec Ideal s .f32) (j : s.Idx) (h) :
    truncf (F := Ideal) .fp8e4m3 (minimumf (broadcast s (Scalar.ofBits .f32 0x43E00000#32)) (maximumf (broadcast s (Scalar.ofBits .f32 0xC3E00000#32)) V)) h j = clip (V j) := rfl

theorem quotient2 (V : FVec Ideal S13056x1024 .f32) (S : FVec Ideal S13056x1 .f32) (i : Fin 13056) (k : Fin 1024) :
    divf (F := Ideal) V (broadcastTo S13056x1024 S Gen.broadcasts_S13056x1_S13056x1024) (ix2 i k) = Ideal.div (V (ix2 i k)) (S (ix2 i 0)) := by
  pointwise []

theorem scales_apply (A : Vec Ideal S13056x1024 .f32) (i : Fin 13056) :
    k0_pay2 (F := Ideal) A (ix2 i 0) = scale (top (row A i)) := by
  unfold k0_pay2
  refine (select_apply (s := S13056x1) _ _).trans (congrArg scale ?_)
  pointwise []
  rfl

theorem codes_apply (A : Vec Ideal S13056x1024 .f32) (i : Fin 13056) (k : Fin 1024) :
    k0_pay3 (F := Ideal) A (ix2 i k) = code (row A i) k := by
  have e1 : k0_pay3 (F := Ideal) A (ix2 i k) = clip (divf (F := Ideal) A (broadcastTo S13056x1024 (k0_pay2 A) Gen.broadcasts_S13056x1_S13056x1024) (ix2 i k)) :=
    clip_apply _ (ix2 i k) Gen.bitsLt_fp8e4m3_f32
  rw [e1, quotient2, scales_apply]
  unfold code
  rfl

theorem lanes_apply (A : Vec Ideal S13056x1024 .f32) (a : Fin 51) (b : Fin 2) (l : Fin 128) (n : Fin 13056) (hn : n.val = 256 * a.val + (128 * b.val + l.val)) :
    k0_pay4 (F := Ideal) A (ix3 a b l) = scale (top (row A n)) := by
  rw [← scales_apply]
  pointwise [k0_pay4]
  exact congrArg (fun n => k0_pay2 (F := Ideal) A (ix2 n 0)) (Fin.ext (by rw [hn]; show a.val * 256 + b.val * 128 + l.val = _; omega))

/-- The product of two matrices times row and column scales. -/
theorem scaled_apply (C : FVec Ideal S13056x1024 .fp8e4m3) (S : FVec Ideal S13056x1 .f32) (w : Vec Ideal S1024x5376 .fp8e4m3) (s : Vec Ideal S1x5376 .f32) (Z : FVec Ideal S13056x5376 .f32) (i : Fin 13056) (n : Fin 5376) :
    mulf (F := Ideal) Z (mulf (broadcastTo S13056x5376 S Gen.broadcasts_S13056x1_S13056x5376) (broadcastTo S13056x5376 s Gen.broadcasts_S1x5376_S13056x5376)) (ix2 i n)
      = (Z (ix2 i n) * (S (ix2 i 0) * s (ix2 0 n)) : EReal) := by
  pointwise []

theorem dot_apply (A : Vec Ideal S13056x1024 .f32) (w : Vec Ideal S1024x5376 .fp8e4m3) (i : Fin 13056) (n : Fin 5376) :
    matmul (F := Ideal) (φ₂ := .fp8e4m3) dot_S13056x1024_S1024x5376_S13056x5376_1_0_0_1_n_n none (k0_pay3 (F := Ideal) A) w (constant (F := Ideal) S13056x5376 .f32 0x00000000#32) (ix2 i n)
      = (∑ k : Fin 1024, code (row A i) k * w (ix2 k n) : EReal) := by
  refine (Ideal.matmul_plain_apply (M := 13056) (K := 1024) (N := 5376) none (k0_pay3 (F := Ideal) A) w _ i n).trans ?_
  have hz : (constant (F := Ideal) S13056x5376 .f32 0x00000000#32 (ix2 i n) : EReal) = 0 := by pointwise []
  refine (congrArg (fun z : EReal => z + _) hz).trans ((zero_add _).trans ?_)
  exact Finset.sum_congr rfl fun k _ => congrArg (· * w (ix2 k n)) (codes_apply A i k)

theorem products_apply (A : Vec Ideal S13056x1024 .f32) (w : Vec Ideal S1024x5376 .fp8e4m3) (s : Vec Ideal S1x5376 .f32) (i : Fin 13056) (n : Fin 5376) :
    k0_pay5 (F := Ideal) A w s (ix2 i n) = projRow (code (row A i)) (scale (top (row A i))) (row w) (row s 0) n := by
  unfold k0_pay5
  refine (scaled_apply (k0_pay3 A) (k0_pay2 A) w s _ i n).trans ?_
  rw [dot_apply, scales_apply]
  unfold projRow
  rfl

/-- The residual plus the normalised products, from the products. -/
theorem normed_apply (Z : FVec Ideal S13056x5376 .f32) (X : Vec Ideal S13056x5376 .bf16) (g : Vec Ideal S1x5376 .f32) (i : Fin 13056) (n : Fin 5376) :
    k0_pay1 (F := Ideal) Z (k0_pay6 X) g (shapeCast S13056x1 (multiReduction .add [1] S13056 (mulf Z Z) 0x00000000#32 Gen.reduces_S13056x5376_S13056 (.inl rfl) rfl) Gen.shapeCasts_S13056_S13056x1) (k0_pay8 (F := Ideal)) (ix2 i n)
      = outRow (row X i) (row Z i) (row g 0) n := by
  pointwise [k0_pay1, k0_pay6, k0_pay8]
  rfl

/-! ## The three results, row by row -/

section Rows

variable (a0 : Vec Ideal S13056x1024 .f32) (a1 : Vec Ideal S13056x5376 .bf16) (a2 : Vec Ideal S1024x5376 .fp8e4m3) (a3 a4 : Vec Ideal S1x5376 .f32)

theorem ext2 {R C : ℕ} {x : (⟨2, ![R, C]⟩ : Shape).Idx → EReal} {f : Fin R → Fin C → EReal} (h : ∀ i n, x (ix2 i n) = f i n) : x = mat f := by
  funext z
  rw [eta2 z]
  exact h (z 0) (z 1)

theorem G5_eq : Value.G5 (F := Ideal) a0 a1 a2 a3 a4 = mat fun i => code (row a0 i) :=
  ext2 fun i n => codes_apply a0 i n

theorem G6_eq (a : Fin 51) (b : Fin 2) (l : Fin 128) (n : Fin 13056) (hn : n.val = 256 * a.val + (128 * b.val + l.val)) :
    Value.G6 (F := Ideal) a0 a1 a2 a3 a4 (ix3 a b l) = scale (top (row a0 n)) :=
  lanes_apply a0 a b l n hn

theorem row_products (i : Fin 13056) :
    row (k0_pay5 (F := Ideal) a0 a2 a3) i = projRow (code (row a0 i)) (scale (top (row a0 i))) (row a2) (row a3 0) :=
  funext fun n => products_apply a0 a2 a3 i n

theorem G7_eq : Value.G7 (F := Ideal) a0 a1 a2 a3 a4
    = mat fun i => outRow (row a1 i) (projRow (code (row a0 i)) (scale (top (row a0 i))) (row a2) (row a3 0)) (row a4 0) := by
  refine ext2 fun i n => ?_
  rw [← row_products]
  exact normed_apply (k0_pay5 a0 a2 a3) a1 a4 i n

end Rows

end Cert.OutputRefIdeal.Val
-- ==== Proof.Output.Claim.lean ====
/-
  The third call and its reference end with the same three arrays: the codes of the rows of the attention result, their
  scales, and the residual plus the normalised products.
-/
module

public import proofs.«01_k».proof.Defs
public import proofs.«01_k».proof.Proof.Output.Arrays
public import proofs.«01_k».proof.Proof.Output.Ref

@[expose] public section

noncomputable section

namespace Cert.Equal.Output

open Idealize.ShloMosaic Idealize.ShloMosaic.TcCoe
open Idealize.SL.Sem
open Cert.Math Cert.OutputIdeal.Val
open Cert.ProjectIdeal.Val (mat mat_apply eta2 eta3 eq_mat)

section Kernel

open Cert.OutputIdeal Cert.OutputIdeal.Gen

variable (m : (ℓ : Loc nD τ sig) → Buf (Elt Ideal) ℓ) (ρ : Dev nD → PrngReg)

/-- What the call leaves in its results, and that it leaves its arguments. -/
theorem kernel_run : θ_run (defs (F := Ideal)) (onTc (τ := τ) (main (F := Ideal))) ⟨m, fun _ => 0, ρ⟩ (fun r => ∀ c : Dev nD,
    r.2.mem ((c.tc : Thread nD τ).loc main_v0_0) = mat (codeR (aA m c))
    ∧ r.2.mem ((c.tc : Thread nD τ).loc main_v0_1) = scaleG (aA m c)
    ∧ r.2.mem ((c.tc : Thread nD τ).loc main_v0_2) = mat (outR (aA m c) (aX m c) (aW m c) (aS m c) (aG m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  have h := (θ_run (defs (F := Ideal)) _ _).mono (fun _ h => h.1) (Cert.OutputIdeal.Val.run_main_quiescent m ρ)
  have k := frame_of m ρ (Cert.OutputIdeal.Val.dats m) (fun c => Cert.OutputIdeal.Val.A_eq m c) h
  exact (θ_run (defs (F := Ideal)) _ _).mono (fun r ⟨h, k⟩ c =>
    ⟨((h c).1 5).trans (final5 m c), ((h c).1 6).trans (final6 m c), ((h c).1 7).trans (final7 m c), k c⟩) (θ_run_and h k)

end Kernel

/-- The scales of the reference, read as the call lays them out. -/
theorem scales_eq (a0 : Vec Ideal Cert.OutputIdeal.S13056x1024 .f32) (a1 : Vec Ideal Cert.OutputIdeal.S13056x5376 .bf16) (a2 : Vec Ideal Cert.OutputIdeal.S1024x5376 .fp8e4m3)
    (a3 a4 : Vec Ideal Cert.OutputIdeal.S1x5376 .f32) : Cert.OutputRefIdeal.Value.G6 (F := Ideal) a0 a1 a2 a3 a4 = scaleG a0 := by
  funext z
  rw [eta3 z]
  exact Cert.OutputRefIdeal.Val.G6_eq a0 a1 a2 a3 a4 (z 0) (z 1) (z 2) _ rfl

/-- The call and its reference, from equal arguments, end with equal results. -/
theorem algebraic : Cert.algebraic_OutputIdeal_OutputRefIdeal (hOutputIdeal := Cert.OutputIdeal.Gen.facts) (hOutputRefIdeal := Cert.OutputRefIdeal.Gen.facts) := by
  intro m g m' g' _ e
  refine ⟨_, _, _, kernel_run m g, ?_⟩
  refine (θ_run (Cert.OutputRefIdeal.defs (F := Ideal)) _ _).mono (fun r h c => ?_) (Cert.OutputRefIdeal.Value.run m' g')
  obtain ⟨h0, h1, h2, h⟩ := h c
  obtain ⟨e0, e1, e2, e3, e4⟩ := e c
  rw [e0, e1, e2, e3, e4] at h0 h1 h2
  exact ⟨h0.trans (Cert.OutputRefIdeal.Val.G5_eq _ _ _ _ _), h1.trans (scales_eq _ _ _ _ _), h2.trans (Cert.OutputRefIdeal.Val.G7_eq _ _ _ _ _), h⟩

end Cert.Equal.Output
-- ==== Proof.lean ====
/-
  The claims: the frames of the two calls, of their idealisations and of their references, and that each call computes
  what its reference computes.
-/
module

public import proofs.«01_k».proof.Defs
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectRefIdeal.Value
public import proofs.«01_k».proof.Proof.Gen.Output
public import proofs.«01_k».proof.Proof.Gen.Output.Skeleton
public import proofs.«01_k».proof.Proof.Gen.Output.Launch
public import proofs.«01_k».proof.Proof.Gen.Output.Points
public import proofs.«01_k».proof.Proof.Gen.Output.Frame
public import proofs.«01_k».proof.Proof.Gen.OutputIdeal
public import proofs.«01_k».proof.Proof.Gen.OutputIdeal.Skeleton
public import proofs.«01_k».proof.Proof.Gen.OutputIdeal.Launch
public import proofs.«01_k».proof.Proof.Gen.OutputIdeal.Points
public import proofs.«01_k».proof.Proof.Gen.OutputIdeal.Frame
public import proofs.«01_k».proof.Proof.Gen.OutputRefIdeal.Value
public import proofs.«01_k».proof.Proof.Project.Claim
public import proofs.«01_k».proof.Proof.Output.Claim
public import Idealize.ShloMosaic.Adequacy
public import Idealize.ShloMosaic.Init

@[expose] public section

noncomputable section

namespace Cert.Proof

open Idealize.ShloMosaic Idealize.SL.Sem Cert.Project

theorem claim : Cert.Claim := ⟨Cert.Project.Gen.facts, Cert.ProjectIdeal.Gen.facts, Cert.Output.Gen.facts, Cert.OutputIdeal.Gen.facts, Cert.ProjectRefIdeal.Gen.facts, Cert.OutputRefIdeal.Gen.facts,
  fun m ρ _ => Cert.Project.Gen.frame m ρ, fun m ρ _ => Cert.ProjectIdeal.Gen.frame m ρ, fun m ρ _ => Cert.Output.Gen.frame m ρ,
  fun m ρ _ => Cert.OutputIdeal.Gen.frame m ρ, fun m ρ _ => Cert.ProjectRefIdeal.Gen.frame m ρ, fun m ρ _ => Cert.OutputRefIdeal.Gen.frame m ρ,
  trivial, trivial, Cert.Equal.Project.algebraic, Cert.Equal.Output.algebraic⟩

end Cert.Proof

end
